-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_finite [hPre_bias_finite : Cert.Pre_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_finite [hPre_bias_finite : Cert.Pre_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bias_finite [hKernelIdeal : Cert.KernelIdeal.Facts] [hPre_bias_finite : Cert.Pre_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bias_finite [hReferenceIdeal : Cert.ReferenceIdeal.Facts] [hPre_bias_finite : Cert.Pre_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_bias_finite [hKernelIdeal : Cert.KernelIdeal.Facts] [hReferenceIdeal : Cert.ReferenceIdeal.Facts] [hPre_bias_finite : Cert.Pre_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bias_finite : Cert.Pre_bias_finite.Facts),
    quiescent_Kernel (hKernel := hKernel)
    ∧ quiescent_KernelIdeal (hKernelIdeal := hKernelIdeal)
    ∧ quiescent_KernelIdeal_pre_bias_finite (hKernelIdeal := hKernelIdeal) (hPre_bias_finite := hPre_bias_finite)
    ∧ quiescent_ReferenceIdeal (hReferenceIdeal := hReferenceIdeal)
    ∧ quiescent_ReferenceIdeal_pre_bias_finite (hReferenceIdeal := hReferenceIdeal) (hPre_bias_finite := hPre_bias_finite)
    ∧ preserves_Kernel_KernelIdeal
    ∧ algebraic_KernelIdeal_ReferenceIdeal_pre_bias_finite (hKernelIdeal := hKernelIdeal) (hReferenceIdeal := hReferenceIdeal) (hPre_bias_finite := hPre_bias_finite)
-- ==== Pre_bias_finite.lean ====
abbrev S2x8448x1024 : Shape := ⟨3, ![2, 8448, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S2x8448x1024 .f32) (main_arg1 : FVec F S2x8448x1024 .f32) (main_arg2 : FVec F S2x8448x1024 .f32) (main_arg3 : FVec F S16 .f32) : IVec S_ 1 :=
  let main_v0 : FVec F S16 .f32 := Host.absf main_arg3
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  main_v3
-- ==== Kernel.lean ====
abbrev S2x8448x1024 : Shape := ⟨3, ![2, 8448, 1024]⟩
abbrev S16 : Shape := ⟨1, ![16]⟩
abbrev S_ : Shape := ⟨0, ![]⟩
abbrev S16x1 : Shape := ⟨2, ![16, 1]⟩
abbrev S16x3 : Shape := ⟨2, ![16, 3]⟩
abbrev S128 : Shape := ⟨1, ![128]⟩
abbrev S1x128 : Shape := ⟨2, ![1, 128]⟩
abbrev S16x128 : Shape := ⟨2, ![16, 128]⟩
abbrev S16x128x1 : Shape := ⟨3, ![16, 128, 1]⟩
abbrev S1 : Shape := ⟨1, ![1]⟩
abbrev S1x1x1 : Shape := ⟨3, ![1, 1, 1]⟩
abbrev S16x128x256 : Shape := ⟨3, ![16, 128, 256]⟩
abbrev S256x128 : Shape := ⟨2, ![256, 128]⟩
abbrev S128x256 : Shape := ⟨2, ![128, 256]⟩
abbrev S2x33x256x8x128 : Shape := ⟨5, ![2, 33, 256, 8, 128]⟩
abbrev S2x8x33x256x128 : Shape := ⟨5, ![2, 8, 33, 256, 128]⟩
abbrev S2x8x33x128x256 : Shape := ⟨5, ![2, 8, 33, 128, 256]⟩
abbrev S8x2x128x256 : Shape := ⟨4, ![8, 2, 128, 256]⟩
abbrev S2x8x33x1x256x128 : Shape := ⟨6, ![2, 8, 33, 1, 256, 128]⟩
abbrev S2x8x33x2x256x128 : Shape := ⟨6, ![2, 8, 33, 2, 256, 128]⟩
abbrev S8x1x128x256 : Shape := ⟨4, ![8, 1, 128, 256]⟩
abbrev S8x128x256 : Shape := ⟨3, ![8, 128, 256]⟩
abbrev S2x8x33x1x128x256 : Shape := ⟨6, ![2, 8, 33, 1, 128, 256]⟩
abbrev S2x8x33x2x128x256 : Shape := ⟨6, ![2, 8, 33, 2, 128, 256]⟩
abbrev S256x256 : Shape := ⟨2, ![256, 256]⟩
abbrev S1x1x33x2x256x128 : Shape := ⟨6, ![1, 1, 33, 2, 256, 128]⟩
abbrev S1x1x1x2x128x256 : Shape := ⟨6, ![1, 1, 1, 2, 128, 256]⟩
abbrev S1x1x33x128x256 : Shape := ⟨5, ![1, 1, 33, 128, 256]⟩
abbrev S1x256x128 : Shape := ⟨3, ![1, 256, 128]⟩
abbrev S8x256x256 : Shape := ⟨3, ![8, 256, 256]⟩
abbrev S2x8x256x256 : Shape := ⟨4, ![2, 8, 256, 256]⟩
abbrev S64x256 : Shape := ⟨2, ![64, 256]⟩
abbrev S1x256 : Shape := ⟨2, ![1, 256]⟩
abbrev S1x1x1x1x256x128 : Shape := ⟨6, ![1, 1, 1, 1, 256, 128]⟩
abbrev S1x1x1x1x128x256 : Shape := ⟨6, ![1, 1, 1, 1, 128, 256]⟩
abbrev S1x256x256 : Shape := ⟨3, ![1, 256, 256]⟩
abbrev S1x1x256x256 : Shape := ⟨4, ![1, 1, 256, 256]⟩
abbrev S1x1x1x64x256 : Shape := ⟨5, ![1, 1, 1, 64, 256]⟩

abbrev nBuf : Space → Nat
  | .hbm => 178
  | .vmem => 12
  | .smem => 0
  | _ => 0

abbrev hbmTy0_0 (i : Nat) : BufTy := match i % 128 with
  | 0 => ⟨S2x8448x1024, .f32⟩
  | 1 => ⟨S2x8448x1024, .f32⟩
  | 2 => ⟨S2x8448x1024, .f32⟩
  | 3 => ⟨S16, .f32⟩
  | 4 => ⟨S_, .f32⟩
  | 5 => ⟨S_, .f32⟩
  | 6 => ⟨S_, .f32⟩
  | 7 => ⟨S_, .f32⟩
  | 8 => ⟨S16, .f32⟩
  | 9 => ⟨S16, .f32⟩
  | 10 => ⟨S16, .bf16⟩
  | 11 => ⟨S16, .f32⟩
  | 12 => ⟨S16, .f32⟩
  | 13 => ⟨S16, .bf16⟩
  | 14 => ⟨S16, .f32⟩
  | 15 => ⟨S16, .f32⟩
  | 16 => ⟨S16, .f32⟩
  | 17 => ⟨S16, .f32⟩
  | 18 => ⟨S16, .bf16⟩
  | 19 => ⟨S16, .f32⟩
  | 20 => ⟨S16, .f32⟩
  | 21 => ⟨S16, .f32⟩
  | 22 => ⟨S16x1, .f32⟩
  | 23 => ⟨S16x1, .f32⟩
  | 24 => ⟨S16x1, .f32⟩
  | 25 => ⟨S16x3, .f32⟩
  | 26 => ⟨S16, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S16, .i32⟩
  | 34 => ⟨S16, .i32⟩
  | 35 => ⟨S_, .i32⟩
  | 36 => ⟨S16, .i32⟩
  | 37 => ⟨S16, .i1⟩
  | 38 => ⟨S_, .i32⟩
  | 39 => ⟨S16, .i32⟩
  | 40 => ⟨S16, .i1⟩
  | 41 => ⟨S_, .i32⟩
  | 42 => ⟨S_, .i1⟩
  | 43 => ⟨S16, .i1⟩
  | 44 => ⟨S16, .i1⟩
  | 45 => ⟨S16, .i1⟩
  | 46 => ⟨S16, .i32⟩
  | 47 => ⟨S16, .i32⟩
  | 48 => ⟨S16, .i32⟩
  | 49 => ⟨S_, .i32⟩
  | 50 => ⟨S16, .i32⟩
  | 51 => ⟨S16, .i1⟩
  | 52 => ⟨S_, .i32⟩
  | 53 => ⟨S_, .i32⟩
  | 54 => ⟨S16, .i32⟩
  | 55 => ⟨S16, .i32⟩
  | 56 => ⟨S16, .i32⟩
  | 57 => ⟨S128, .i32⟩
  | 58 => ⟨S1x128, .i32⟩
  | 59 => ⟨S16x1, .i32⟩
  | 60 => ⟨S16x1, .i32⟩
  | 61 => ⟨S16x128, .i32⟩
  | 62 => ⟨S16x128, .i32⟩
  | 63 => ⟨S16x128, .i32⟩
  | 64 => ⟨S_, .i32⟩
  | 65 => ⟨S16x128, .i32⟩
  | 66 => ⟨S16x128, .i1⟩
  | 67 => ⟨S_, .i32⟩
  | 68 => ⟨S16x128, .i32⟩
  | 69 => ⟨S16x128, .i1⟩
  | 70 => ⟨S16x128, .i1⟩
  | 71 => ⟨S_, .i32⟩
  | 72 => ⟨S_, .i32⟩
  | 73 => ⟨S_, .i32⟩
  | 74 => ⟨S16x128, .i32⟩
  | 75 => ⟨S16x128, .i32⟩
  | 76 => ⟨S_, .i32⟩
  | 77 => ⟨S16x128, .i32⟩
  | 78 => ⟨S16x128, .i32⟩
  | 79 => ⟨S_, .i32⟩
  | 80 => ⟨S16x128, .i32⟩
  | 81 => ⟨S16x128, .i1⟩
  | 82 => ⟨S_, .i32⟩
  | 83 => ⟨S16x128, .i32⟩
  | 84 => ⟨S16x128, .i32⟩
  | 85 => ⟨S16x128, .i32⟩
  | 86 => ⟨S16x128x1, .i32⟩
  | 87 => ⟨S1, .i32⟩
  | 88 => ⟨S_, .i32⟩
  | 89 => ⟨S16x128x1, .i32⟩
  | 90 => ⟨S16x128x1, .i1⟩
  | 91 => ⟨S1x1x1, .i32⟩
  | 92 => ⟨S16x128x1, .i32⟩
  | 93 => ⟨S16x128x1, .i1⟩
  | 94 => ⟨S16x128x1, .i1⟩
  | 95 => ⟨S_, .i1⟩
  | 96 => ⟨S16x128, .i1⟩
  | 97 => ⟨S16x128, .f32⟩
  | 98 => ⟨S_, .f32⟩
  | 99 => ⟨S16x128, .f32⟩
  | 100 => ⟨S16x128, .f32⟩
  | 101 => ⟨S_, .f32⟩
  | 102 => ⟨S_, .f32⟩
  | 103 => ⟨S16x128, .f32⟩
  | 104 => ⟨S16x128, .f32⟩
  | 105 => ⟨S16x128x1, .f32⟩
  | 106 => ⟨S16x128x256, .f32⟩
  | 107 => ⟨S256x128, .i32⟩
  | 108 => ⟨S128x256, .i32⟩
  | 109 => ⟨S_, .i32⟩
  | 110 => ⟨S256x128, .i32⟩
  | 111 => ⟨S256x128, .i1⟩
  | 112 => ⟨S_, .i32⟩
  | 113 => ⟨S256x128, .i32⟩
  | 114 => ⟨S256x128, .i1⟩
  | 115 => ⟨S256x128, .i1⟩
  | 116 => ⟨S256x128, .f32⟩
  | 117 => ⟨S_, .i32⟩
  | 118 => ⟨S256x128, .i32⟩
  | 119 => ⟨S256x128, .i1⟩
  | 120 => ⟨S256x128, .f32⟩
  | 121 => ⟨S_, .f32⟩
  | 122 => ⟨S_, .f32⟩
  | 123 => ⟨S2x8448x1024, .f32⟩
  | 124 => ⟨S2x8448x1024, .f32⟩
  | 125 => ⟨S2x33x256x8x128, .f32⟩
  | 126 => ⟨S2x8x33x256x128, .f32⟩
  | 127 => ⟨S2x33x256x8x128, .f32⟩
  | _ => ⟨S2x8448x1024, .f32⟩

abbrev hbmTy0_1 (i : Nat) : BufTy := match i % 128 with
  | 0 => ⟨S2x8x33x256x128, .f32⟩
  | 1 => ⟨S2x8x33x128x256, .f32⟩
  | 2 => ⟨S2x33x256x8x128, .f32⟩
  | 3 => ⟨S2x8x33x256x128, .f32⟩
  | 4 => ⟨S2x8x33x128x256, .f32⟩
  | 5 => ⟨S8x2x128x256, .f32⟩
  | 6 => ⟨S_, .i32⟩
  | 7 => ⟨S256x128, .i32⟩
  | 8 => ⟨S256x128, .i1⟩
  | 9 => ⟨S2x8x33x256x128, .i1⟩
  | 10 => ⟨S2x8x33x256x128, .f32⟩
  | 11 => ⟨S2x8x33x256x128, .f32⟩
  | 12 => ⟨S_, .i32⟩
  | 13 => ⟨S256x128, .i32⟩
  | 14 => ⟨S256x128, .i1⟩
  | 15 => ⟨S2x8x33x256x128, .i1⟩
  | 16 => ⟨S2x8x33x256x128, .f32⟩
  | 17 => ⟨S2x8x33x256x128, .f32⟩
  | 18 => ⟨S2x8x33x1x256x128, .f32⟩
  | 19 => ⟨S2x8x33x1x256x128, .f32⟩
  | 20 => ⟨S2x8x33x2x256x128, .f32⟩
  | 21 => ⟨S2x8x33x2x256x128, .bf16⟩
  | 22 => ⟨S_, .i32⟩
  | 23 => ⟨S128x256, .i32⟩
  | 24 => ⟨S128x256, .i1⟩
  | 25 => ⟨S8x1x128x256, .f32⟩
  | 26 => ⟨S8x128x256, .f32⟩
  | 27 => ⟨S8x1x128x256, .f32⟩
  | 28 => ⟨S2x8x33x128x256, .i1⟩
  | 29 => ⟨S2x8x33x128x256, .f32⟩
  | 30 => ⟨S2x8x33x128x256, .f32⟩
  | 31 => ⟨S_, .i32⟩
  | 32 => ⟨S128x256, .i32⟩
  | 33 => ⟨S128x256, .i1⟩
  | 34 => ⟨S8x1x128x256, .f32⟩
  | 35 => ⟨S8x128x256, .f32⟩
  | 36 => ⟨S8x1x128x256, .f32⟩
  | 37 => ⟨S2x8x33x128x256, .i1⟩
  | 38 => ⟨S2x8x33x128x256, .f32⟩
  | 39 => ⟨S2x8x33x128x256, .f32⟩
  | 40 => ⟨S2x8x33x1x128x256, .f32⟩
  | 41 => ⟨S2x8x33x1x128x256, .f32⟩
  | 42 => ⟨S2x8x33x2x128x256, .f32⟩
  | 43 => ⟨S2x8x33x2x128x256, .bf16⟩
  | 44 => ⟨S2x8x33x128x256, .bf16⟩
  | 45 => ⟨S256x256, .i32⟩
  | 46 => ⟨S256x256, .i32⟩
  | 47 => ⟨S256x256, .i1⟩
  | 48 => ⟨S256x256, .bf16⟩
  | 49 => ⟨S2x8448x1024, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | .local _ .vmem, ⟨0, _⟩ => ⟨S1x1x33x2x256x128, .bf16⟩
  | .local _ .vmem, ⟨1, _⟩ => ⟨S1x1x33x2x256x128, .bf16⟩
  | .local _ .vmem, ⟨2, _⟩ => ⟨S1x1x1x2x128x256, .bf16⟩
  | .local _ .vmem, ⟨3, _⟩ => ⟨S1x1x1x2x128x256, .bf16⟩
  | .local _ .vmem, ⟨4, _⟩ => ⟨S1x1x33x128x256, .bf16⟩
  | .local _ .vmem, ⟨5, _⟩ => ⟨S1x1x33x128x256, .bf16⟩
  | .local _ .vmem, ⟨6, _⟩ => ⟨S256x256, .bf16⟩
  | .local _ .vmem, ⟨7, _⟩ => ⟨S1x256x128, .f32⟩
  | .local _ .vmem, ⟨8, _⟩ => ⟨S1x256x128, .f32⟩
  | .local _ .vmem, ⟨9, _⟩ => ⟨S8x256x256, .f32⟩
  | .local _ .vmem, ⟨10, _⟩ => ⟨S8x256x256, .f32⟩
  | .local _ .vmem, ⟨11, _⟩ => ⟨S2x8x256x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v21 : Ref sig .tc := ⟨.hbm, 48, rfl⟩
abbrev main_c_1 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_c_3 : Ref sig .tc := ⟨.hbm, 53, rfl⟩
abbrev main_call1_v0 : Ref sig .tc := ⟨.hbm, 54, rfl⟩
abbrev main_call1_v1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_4 : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_6 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v37 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v38 : Ref sig .tc := ⟨.hbm, 100, rfl⟩
abbrev main_cst_8 : Ref sig .tc := ⟨.hbm, 101, rfl⟩
abbrev main_call4_v0 : Ref sig .tc := ⟨.hbm, 102, rfl⟩
abbrev main_call4_v1 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_9 : Ref sig .tc := ⟨.hbm, 109, rfl⟩
abbrev main_v44 : Ref sig .tc := ⟨.hbm, 110, rfl⟩
abbrev main_v45 : Ref sig .tc := ⟨.hbm, 111, rfl⟩
abbrev main_c_10 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_c_11 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_12 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_c_13 : Ref sig .tc := ⟨.hbm, 134, rfl⟩
abbrev main_v65 : Ref sig .tc := ⟨.hbm, 135, rfl⟩
abbrev main_v66 : Ref sig .tc := ⟨.hbm, 136, rfl⟩
abbrev main_call5_v0 : Ref sig .tc := ⟨.hbm, 137, rfl⟩
abbrev main_call5_v1 : Ref sig .tc := ⟨.hbm, 138, rfl⟩
abbrev main_v67 : Ref sig .tc := ⟨.hbm, 139, rfl⟩
abbrev main_c_14 : Ref sig .tc := ⟨.hbm, 140, rfl⟩
abbrev main_v68 : Ref sig .tc := ⟨.hbm, 141, rfl⟩
abbrev main_v69 : Ref sig .tc := ⟨.hbm, 142, rfl⟩
abbrev main_call6_v0 : Ref sig .tc := ⟨.hbm, 143, rfl⟩
abbrev main_call6_v1 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_c_15 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_call7_v0 : Ref sig .tc := ⟨.hbm, 156, rfl⟩
abbrev main_call7_v1 : Ref sig .tc := ⟨.hbm, 157, rfl⟩
abbrev main_v80 : Ref sig .tc := ⟨.hbm, 158, rfl⟩
abbrev main_c_16 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_call8_v0 : Ref sig .tc := ⟨.hbm, 165, rfl⟩
abbrev main_call8_v1 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 33], ![false, false, false]⟩

def k0_cond1 (i : grid0.Coords) : BitVec 1 :=
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let c1_i32_9 : BitVec 32 := 1#32
  let v23 : BitVec 32 := Scalar.subi v5 c1_i32_9
  let c0_i32_10 : BitVec 32 := 0#32
  let v24 : BitVec 32 := Scalar.maxsi v23 c0_i32_10
  let c3_i32 : BitVec 32 := 3#32
  let v25 : BitVec 32 := Scalar.minsi v24 c3_i32
  let c0_i32_11 : BitVec 32 := 0#32
  let v26 : BitVec 1 := Scalar.cmpi .ne v25 c0_i32_11
  v26

def k0_cond2 (i : grid0.Coords) : BitVec 1 :=
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let c1_i32_9 : BitVec 32 := 1#32
  let v23 : BitVec 32 := Scalar.subi v5 c1_i32_9
  let c0_i32_10 : BitVec 32 := 0#32
  let v24 : BitVec 32 := Scalar.maxsi v23 c0_i32_10
  let c3_i32 : BitVec 32 := 3#32
  let v25 : BitVec 32 := Scalar.minsi v24 c3_i32
  let c1_i32_114 : BitVec 32 := 1#32
  let v237 : BitVec 32 := Scalar.subi v25 c1_i32_114
  let c0_i32_115 : BitVec 32 := 0#32
  let v238 : BitVec 1 := Scalar.cmpi .ne v237 c0_i32_115
  v238

def k0_cond3 (i : grid0.Coords) : BitVec 1 :=
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let c1_i32_9 : BitVec 32 := 1#32
  let v23 : BitVec 32 := Scalar.subi v5 c1_i32_9
  let c0_i32_10 : BitVec 32 := 0#32
  let v24 : BitVec 32 := Scalar.maxsi v23 c0_i32_10
  let c3_i32 : BitVec 32 := 3#32
  let v25 : BitVec 32 := Scalar.minsi v24 c3_i32
  let c1_i32_114 : BitVec 32 := 1#32
  let v237 : BitVec 32 := Scalar.subi v25 c1_i32_114
  let c1_i32_116 : BitVec 32 := 1#32
  let v240 : BitVec 32 := Scalar.subi v237 c1_i32_116
  let c0_i32_117 : BitVec 32 := 0#32
  let v241 : BitVec 1 := Scalar.cmpi .ne v240 c0_i32_117
  v241

def k0_off1 (i : grid0.Coords) (c0_i32_118 : BitVec 32) : Fin 6 → Nat :=
  let c0_119 : Index := 0#32
  let c0_120 : Index := 0#32
  let arg2 : BitVec 32 := BitVec.ofNat 32 (i 2).val
  let v243 : BitVec 32 := Scalar.subi arg2 c0_i32_118
  let v244 : Index := Scalar.indexCast v243
  let c0_121 : Index := 0#32
  let c0_122 : Index := 0#32
  let c0_123 : Index := 0#32
  ![0, 0, v244.toNat, 0, 0, 0]
def k0_off2 (i : grid0.Coords) (c0_i32_182 : BitVec 32) : Fin 6 → Nat :=
  let c0_183 : Index := 0#32
  let c0_184 : Index := 0#32
  let arg2 : BitVec 32 := BitVec.ofNat 32 (i 2).val
  let v283 : BitVec 32 := Scalar.subi arg2 c0_i32_182
  let v284 : Index := Scalar.indexCast v283
  let c1_185 : Index := 1#32
  let c0_186 : Index := 0#32
  let c0_187 : Index := 0#32
  ![0, 0, v284.toNat, 1, 0, 0]
def k0_off3 (i : grid0.Coords) (c0_i32_308 : BitVec 32) : Fin 6 → Nat :=
  let c0_310 : Index := 0#32
  let c0_311 : Index := 0#32
  let arg2 : BitVec 32 := BitVec.ofNat 32 (i 2).val
  let c4_i32_307 : BitVec 32 := 4#32
  let v446 : BitVec 32 := Scalar.subi arg2 c4_i32_307
  let v447 : BitVec 32 := Scalar.subi v446 c0_i32_308
  let c0_i32_309 : BitVec 32 := 0#32
  let v448 : BitVec 32 := Scalar.maxsi v447 c0_i32_309
  let v449 : Index := Scalar.indexCast v448
  let c0_312 : Index := 0#32
  let c0_313 : Index := 0#32
  let c0_314 : Index := 0#32
  ![0, 0, v449.toNat, 0, 0, 0]
def k0_off4 (i : grid0.Coords) (c0_i32_392 : BitVec 32) : Fin 6 → Nat :=
  let c0_394 : Index := 0#32
  let c0_395 : Index := 0#32
  let arg2 : BitVec 32 := BitVec.ofNat 32 (i 2).val
  let c4_i32_391 : BitVec 32 := 4#32
  let v510 : BitVec 32 := Scalar.subi arg2 c4_i32_391
  let v511 : BitVec 32 := Scalar.subi v510 c0_i32_392
  let c0_i32_393 : BitVec 32 := 0#32
  let v512 : BitVec 32 := Scalar.maxsi v511 c0_i32_393
  let v513 : Index := Scalar.indexCast v512
  let c1_396 : Index := 1#32
  let c0_397 : Index := 0#32
  let c0_398 : Index := 0#32
  ![0, 0, v513.toNat, 1, 0, 0]
def k0_off5 (i : grid0.Coords) (c0_i32_118 : BitVec 32) : Fin 6 → Nat :=
  let c0_119 : Index := 0#32
  let c0_120 : Index := 0#32
  let arg2 : BitVec 32 := BitVec.ofNat 32 (i 2).val
  let v243 : BitVec 32 := Scalar.subi arg2 c0_i32_118
  let v244 : Index := Scalar.indexCast v243
  let c0_121 : Index := 0#32
  let c0_122 : Index := 0#32
  let c0_123 : Index := 0#32
  ![0, 0, v244.toNat, 0, 0, 0]
def k0_off6 (i : grid0.Coords) (c0_i32_166 : BitVec 32) : Fin 6 → Nat :=
  let c0_167 : Index := 0#32
  let c0_168 : Index := 0#32
  let arg2 : BitVec 32 := BitVec.ofNat 32 (i 2).val
  let v273 : BitVec 32 := Scalar.subi arg2 c0_i32_166
  let v274 : Index := Scalar.indexCast v273
  let c1_169 : Index := 1#32
  let c0_170 : Index := 0#32
  let c0_171 : Index := 0#32
  ![0, 0, v274.toNat, 1, 0, 0]
def k0_off7 (i : grid0.Coords) (c0_i32_262 : BitVec 32) : Fin 6 → Nat :=
  let c0_264 : Index := 0#32
  let c0_265 : Index := 0#32
  let arg2 : BitVec 32 := BitVec.ofNat 32 (i 2).val
  let c3_i32_261 : BitVec 32 := 3#32
  let v398 : BitVec 32 := Scalar.subi arg2 c3_i32_261
  let v399 : BitVec 32 := Scalar.subi v398 c0_i32_262
  let c0_i32_263 : BitVec 32 := 0#32
  let v400 : BitVec 32 := Scalar.maxsi v399 c0_i32_263
  let v401 : Index := Scalar.indexCast v400
  let c0_266 : Index := 0#32
  let c0_267 : Index := 0#32
  let c0_268 : Index := 0#32
  ![0, 0, v401.toNat, 0, 0, 0]
def k0_off8 (i : grid0.Coords) (c0_i32_343 : BitVec 32) : Fin 6 → Nat :=
  let c0_345 : Index := 0#32
  let c0_346 : Index := 0#32
  let arg2 : BitVec 32 := BitVec.ofNat 32 (i 2).val
  let c3_i32_342 : BitVec 32 := 3#32
  let v458 : BitVec 32 := Scalar.subi arg2 c3_i32_342
  let v459 : BitVec 32 := Scalar.subi v458 c0_i32_343
  let c0_i32_344 : BitVec 32 := 0#32
  let v460 : BitVec 32 := Scalar.maxsi v459 c0_i32_344
  let v461 : Index := Scalar.indexCast v460
  let c1_347 : Index := 1#32
  let c0_348 : Index := 0#32
  let c0_349 : Index := 0#32
  ![0, 0, v461.toNat, 1, 0, 0]
def k0_off9 (i : grid0.Coords) (c0_i32_116 : BitVec 32) : Fin 6 → Nat :=
  let c0_117 : Index := 0#32
  let c0_118 : Index := 0#32
  let arg2 : BitVec 32 := BitVec.ofNat 32 (i 2).val
  let v240 : BitVec 32 := Scalar.subi arg2 c0_i32_116
  let v241 : Index := Scalar.indexCast v240
  let c0_119 : Index := 0#32
  let c0_120 : Index := 0#32
  let c0_121 : Index := 0#32
  ![0, 0, v241.toNat, 0, 0, 0]
def k0_off10 (i : grid0.Coords) (c0_i32_148 : BitVec 32) : Fin 6 → Nat :=
  let c0_149 : Index := 0#32
  let c0_150 : Index := 0#32
  let arg2 : BitVec 32 := BitVec.ofNat 32 (i 2).val
  let v260 : BitVec 32 := Scalar.subi arg2 c0_i32_148
  let v261 : Index := Scalar.indexCast v260
  let c1_151 : Index := 1#32
  let c0_152 : Index := 0#32
  let c0_153 : Index := 0#32
  ![0, 0, v261.toNat, 1, 0, 0]
def k0_off11 (i : grid0.Coords) (c0_i32_214 : BitVec 32) : Fin 6 → Nat :=
  let c0_216 : Index := 0#32
  let c0_217 : Index := 0#32
  let arg2 : BitVec 32 := BitVec.ofNat 32 (i 2).val
  let c2_i32_213 : BitVec 32 := 2#32
  let v347 : BitVec 32 := Scalar.subi arg2 c2_i32_213
  let v348 : BitVec 32 := Scalar.subi v347 c0_i32_214
  let c0_i32_215 : BitVec 32 := 0#32
  let v349 : BitVec 32 := Scalar.maxsi v348 c0_i32_215
  let v350 : Index := Scalar.indexCast v349
  let c0_218 : Index := 0#32
  let c0_219 : Index := 0#32
  let c0_220 : Index := 0#32
  ![0, 0, v350.toNat, 0, 0, 0]
def k0_off12 (i : grid0.Coords) (c0_i32_292 : BitVec 32) : Fin 6 → Nat :=
  let c0_294 : Index := 0#32
  let c0_295 : Index := 0#32
  let arg2 : BitVec 32 := BitVec.ofNat 32 (i 2).val
  let c2_i32_291 : BitVec 32 := 2#32
  let v403 : BitVec 32 := Scalar.subi arg2 c2_i32_291
  let v404 : BitVec 32 := Scalar.subi v403 c0_i32_292
  let c0_i32_293 : BitVec 32 := 0#32
  let v405 : BitVec 32 := Scalar.maxsi v404 c0_i32_293
  let v406 : Index := Scalar.indexCast v405
  let c1_296 : Index := 1#32
  let c0_297 : Index := 0#32
  let c0_298 : Index := 0#32
  ![0, 0, v406.toNat, 1, 0, 0]
def k0_off13 (i : grid0.Coords) : Fin 6 → Nat :=
  let c0_115 : Index := 0#32
  let c0_116 : Index := 0#32
  let arg2 : BitVec 32 := BitVec.ofNat 32 (i 2).val
  let c0_i32_114 : BitVec 32 := 0#32
  let v237 : BitVec 32 := Scalar.subi arg2 c0_i32_114
  let v238 : Index := Scalar.indexCast v237
  let c0_117 : Index := 0#32
  let c0_118 : Index := 0#32
  let c0_119 : Index := 0#32
  ![0, 0, v238.toNat, 0, 0, 0]
def k0_off14 (i : grid0.Coords) : Fin 6 → Nat :=
  let c0_131 : Index := 0#32
  let c0_132 : Index := 0#32
  let arg2 : BitVec 32 := BitVec.ofNat 32 (i 2).val
  let c0_i32_130 : BitVec 32 := 0#32
  let v247 : BitVec 32 := Scalar.subi arg2 c0_i32_130
  let v248 : Index := Scalar.indexCast v247
  let c1_133 : Index := 1#32
  let c0_134 : Index := 0#32
  let c0_135 : Index := 0#32
  ![0, 0, v248.toNat, 1, 0, 0]
def k0_off15 (i : grid0.Coords) (c0_i32_166 : BitVec 32) : Fin 6 → Nat :=
  let c0_168 : Index := 0#32
  let c0_169 : Index := 0#32
  let arg2 : BitVec 32 := BitVec.ofNat 32 (i 2).val
  let c1_i32_165 : BitVec 32 := 1#32
  let v296 : BitVec 32 := Scalar.subi arg2 c1_i32_165
  let v297 : BitVec 32 := Scalar.subi v296 c0_i32_166
  let c0_i32_167 : BitVec 32 := 0#32
  let v298 : BitVec 32 := Scalar.maxsi v297 c0_i32_167
  let v299 : Index := Scalar.indexCast v298
  let c0_170 : Index := 0#32
  let c0_171 : Index := 0#32
  let c0_172 : Index := 0#32
  ![0, 0, v299.toNat, 0, 0, 0]
def k0_off16 (i : grid0.Coords) (c0_i32_241 : BitVec 32) : Fin 6 → Nat :=
  let c0_243 : Index := 0#32
  let c0_244 : Index := 0#32
  let arg2 : BitVec 32 := BitVec.ofNat 32 (i 2).val
  let c1_i32_240 : BitVec 32 := 1#32
  let v348 : BitVec 32 := Scalar.subi arg2 c1_i32_240
  let v349 : BitVec 32 := Scalar.subi v348 c0_i32_241
  let c0_i32_242 : BitVec 32 := 0#32
  let v350 : BitVec 32 := Scalar.maxsi v349 c0_i32_242
  let v351 : Index := Scalar.indexCast v350
  let c1_245 : Index := 1#32
  let c0_246 : Index := 0#32
  let c0_247 : Index := 0#32
  ![0, 0, v351.toNat, 1, 0, 0]
@[reducible] def k0_t1_loop (i : grid0.Coords) : Scf.Loop 32 :=
  let c0_i32_19 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_21 : BitVec 32 := 1#32
  ⟨c0_i32_19, v50, c1_i32_21⟩
def k0_off17 (arg16 : BitVec 32) (c0_i32_116 : BitVec 32) : Fin 5 → Nat :=
  let c0_118 : Index := 0#32
  let c0_119 : Index := 0#32
  let v241 : BitVec 32 := Scalar.subi arg16 c0_i32_116
  let c0_i32_117 : BitVec 32 := 0#32
  let v242 : BitVec 32 := Scalar.maxsi v241 c0_i32_117
  let v243 : Index := Scalar.indexCast v242
  let c0_120 : Index := 0#32
  let c0_121 : Index := 0#32
  ![0, 0, v243.toNat, 0, 0]

def k0_off18 (arg16 : BitVec 32) (c0_i32_160 : BitVec 32) : Fin 5 → Nat :=
  let c0_162 : Index := 0#32
  let c0_163 : Index := 0#32
  let v273 : BitVec 32 := Scalar.subi arg16 c0_i32_160
  let c0_i32_161 : BitVec 32 := 0#32
  let v274 : BitVec 32 := Scalar.maxsi v273 c0_i32_161
  let v275 : Index := Scalar.indexCast v274
  let c64_164 : Index := 64#32
  let c0_165 : Index := 0#32
  ![0, 0, v275.toNat, 64, 0]

def k0_chk1 (i : grid0.Coords) (k0_t1 : Fin (k0_t1_loop i).trips) (arg16 : BitVec 32) : Prop :=
  (∀ (r : Fin 4), ∀ a, (k0_off17 arg16 (BitVec.ofNat 32 r.val)) a + S1x1x1x64x256.size a ≤ S1x1x33x128x256.size a) ∧
  (∀ (r : Fin 4), ∀ a, (k0_off18 arg16 (BitVec.ofNat 32 r.val)) a + S1x1x1x64x256.size a ≤ S1x1x33x128x256.size a)
theorem k0_off17_inb : ∀ (i : grid0.Coords) (k0_t1 : Fin (k0_t1_loop i).trips) (arg16 : BitVec 32) (k0_hw1 : k0_chk1 i k0_t1 arg16), ∀ (r : Fin 4), ∀ a, (k0_off17 arg16 (BitVec.ofNat 32 r.val)) a + S1x1x1x64x256.size a ≤ S1x1x33x128x256.size a := fun i k0_t1 arg16 k0_hw1 r => k0_hw1.1 r
theorem k0_off18_inb : ∀ (i : grid0.Coords) (k0_t1 : Fin (k0_t1_loop i).trips) (arg16 : BitVec 32) (k0_hw1 : k0_chk1 i k0_t1 arg16), ∀ (r : Fin 4), ∀ a, (k0_off18 arg16 (BitVec.ofNat 32 r.val)) a + S1x1x1x64x256.size a ≤ S1x1x33x128x256.size a := fun i k0_t1 arg16 k0_hw1 r => k0_hw1.2 r

def k0_off19 (i : grid0.Coords) (k0_t1 : Fin (k0_t1_loop i).trips) (c0_i32_280 : BitVec 32) : Fin 6 → Nat :=
  let c0_282 : Index := 0#32
  let c0_283 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_279 : BitVec 32 := 4#32
  let v533 : BitVec 32 := Scalar.subi v240 c4_i32_279
  let v534 : BitVec 32 := Scalar.subi v533 c0_i32_280
  let c0_i32_281 : BitVec 32 := 0#32
  let v535 : BitVec 32 := Scalar.maxsi v534 c0_i32_281
  let v536 : Index := Scalar.indexCast v535
  let c0_284 : Index := 0#32
  let c0_285 : Index := 0#32
  let c0_286 : Index := 0#32
  ![0, 0, v536.toNat, 0, 0, 0]
def k0_off20 (i : grid0.Coords) (k0_t1 : Fin (k0_t1_loop i).trips) (c0_i32_364 : BitVec 32) : Fin 6 → Nat :=
  let c0_366 : Index := 0#32
  let c0_367 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_363 : BitVec 32 := 4#32
  let v597 : BitVec 32 := Scalar.subi v240 c4_i32_363
  let v598 : BitVec 32 := Scalar.subi v597 c0_i32_364
  let c0_i32_365 : BitVec 32 := 0#32
  let v599 : BitVec 32 := Scalar.maxsi v598 c0_i32_365
  let v600 : Index := Scalar.indexCast v599
  let c1_368 : Index := 1#32
  let c0_369 : Index := 0#32
  let c0_370 : Index := 0#32
  ![0, 0, v600.toNat, 1, 0, 0]
def k0_cond4 (i : grid0.Coords) (k0_t1 : Fin (k0_t1_loop i).trips) : BitVec 1 :=
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c0_i32_501 : BitVec 32 := 0#32
  let v730 : BitVec 1 := Scalar.cmpi .sge v729 c0_i32_501
  let v731 : BitVec 32 := Scalar.extui v730
  let c0_i32_503 : BitVec 32 := 0#32
  let v732 : BitVec 1 := Scalar.cmpi .ne v731 c0_i32_503
  v732

def k0_off21 (i : grid0.Coords) (k0_t1 : Fin (k0_t1_loop i).trips) (c0_i32_504 : BitVec 32) : Fin 5 → Nat :=
  let c0_506 : Index := 0#32
  let c0_507 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let v734 : BitVec 32 := Scalar.subi v240 c0_i32_504
  let c0_i32_505 : BitVec 32 := 0#32
  let v735 : BitVec 32 := Scalar.maxsi v734 c0_i32_505
  let v736 : Index := Scalar.indexCast v735
  let c0_508 : Index := 0#32
  let c0_509 : Index := 0#32
  ![0, 0, v736.toNat, 0, 0]
def k0_off22 (i : grid0.Coords) (k0_t1 : Fin (k0_t1_loop i).trips) (c0_i32_548 : BitVec 32) : Fin 5 → Nat :=
  let c0_550 : Index := 0#32
  let c0_551 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let v766 : BitVec 32 := Scalar.subi v240 c0_i32_548
  let c0_i32_549 : BitVec 32 := 0#32
  let v767 : BitVec 32 := Scalar.maxsi v766 c0_i32_549
  let v768 : Index := Scalar.indexCast v767
  let c64_552 : Index := 64#32
  let c0_553 : Index := 0#32
  ![0, 0, v768.toNat, 64, 0]
def k0_off23 (i : grid0.Coords) (k0_t1 : Fin (k0_t1_loop i).trips) (c0_i32_668 : BitVec 32) : Fin 6 → Nat :=
  let c0_670 : Index := 0#32
  let c0_671 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c4_i32_667 : BitVec 32 := 4#32
  let v1026 : BitVec 32 := Scalar.subi v729 c4_i32_667
  let v1027 : BitVec 32 := Scalar.subi v1026 c0_i32_668
  let c0_i32_669 : BitVec 32 := 0#32
  let v1028 : BitVec 32 := Scalar.maxsi v1027 c0_i32_669
  let v1029 : Index := Scalar.indexCast v1028
  let c0_672 : Index := 0#32
  let c0_673 : Index := 0#32
  let c0_674 : Index := 0#32
  ![0, 0, v1029.toNat, 0, 0, 0]
def k0_off24 (i : grid0.Coords) (k0_t1 : Fin (k0_t1_loop i).trips) (c0_i32_752 : BitVec 32) : Fin 6 → Nat :=
  let c0_754 : Index := 0#32
  let c0_755 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c1_i32_21 : BitVec 32 := 1#32
  let arg11 : BitVec 32 := Scf.iv c0_i32_19 c1_i32_21 k0_t1
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c4_i32_751 : BitVec 32 := 4#32
  let v1090 : BitVec 32 := Scalar.subi v729 c4_i32_751
  let v1091 : BitVec 32 := Scalar.subi v1090 c0_i32_752
  let c0_i32_753 : BitVec 32 := 0#32
  let v1092 : BitVec 32 := Scalar.maxsi v1091 c0_i32_753
  let v1093 : Index := Scalar.indexCast v1092
  let c1_756 : Index := 1#32
  let c0_757 : Index := 0#32
  let c0_758 : Index := 0#32
  ![0, 0, v1093.toNat, 1, 0, 0]
@[reducible] def k0_t2_loop (i : grid0.Coords) : Scf.Loop 32 :=
  let c0_i32_19 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let v47 : BitVec 32 := Scalar.addi c0_i32_19 v46
  let c1_i32_22 : BitVec 32 := 1#32
  ⟨v50, v47, c1_i32_22⟩
def k0_off25 (arg16 : BitVec 32) (c0_i32_116 : BitVec 32) : Fin 5 → Nat :=
  let c0_118 : Index := 0#32
  let c0_119 : Index := 0#32
  let v241 : BitVec 32 := Scalar.subi arg16 c0_i32_116
  let c0_i32_117 : BitVec 32 := 0#32
  let v242 : BitVec 32 := Scalar.maxsi v241 c0_i32_117
  let v243 : Index := Scalar.indexCast v242
  let c0_120 : Index := 0#32
  let c0_121 : Index := 0#32
  ![0, 0, v243.toNat, 0, 0]

def k0_off26 (arg16 : BitVec 32) (c0_i32_160 : BitVec 32) : Fin 5 → Nat :=
  let c0_162 : Index := 0#32
  let c0_163 : Index := 0#32
  let v273 : BitVec 32 := Scalar.subi arg16 c0_i32_160
  let c0_i32_161 : BitVec 32 := 0#32
  let v274 : BitVec 32 := Scalar.maxsi v273 c0_i32_161
  let v275 : Index := Scalar.indexCast v274
  let c64_164 : Index := 64#32
  let c0_165 : Index := 0#32
  ![0, 0, v275.toNat, 64, 0]

def k0_chk2 (i : grid0.Coords) (k0_t2 : Fin (k0_t2_loop i).trips) (arg16 : BitVec 32) : Prop :=
  (∀ (r : Fin 4), ∀ a, (k0_off25 arg16 (BitVec.ofNat 32 r.val)) a + S1x1x1x64x256.size a ≤ S1x1x33x128x256.size a) ∧
  (∀ (r : Fin 4), ∀ a, (k0_off26 arg16 (BitVec.ofNat 32 r.val)) a + S1x1x1x64x256.size a ≤ S1x1x33x128x256.size a)
theorem k0_off25_inb : ∀ (i : grid0.Coords) (k0_t2 : Fin (k0_t2_loop i).trips) (arg16 : BitVec 32) (k0_hw2 : k0_chk2 i k0_t2 arg16), ∀ (r : Fin 4), ∀ a, (k0_off25 arg16 (BitVec.ofNat 32 r.val)) a + S1x1x1x64x256.size a ≤ S1x1x33x128x256.size a := fun i k0_t2 arg16 k0_hw2 r => k0_hw2.1 r
theorem k0_off26_inb : ∀ (i : grid0.Coords) (k0_t2 : Fin (k0_t2_loop i).trips) (arg16 : BitVec 32) (k0_hw2 : k0_chk2 i k0_t2 arg16), ∀ (r : Fin 4), ∀ a, (k0_off26 arg16 (BitVec.ofNat 32 r.val)) a + S1x1x1x64x256.size a ≤ S1x1x33x128x256.size a := fun i k0_t2 arg16 k0_hw2 r => k0_hw2.2 r

def k0_off27 (i : grid0.Coords) (k0_t2 : Fin (k0_t2_loop i).trips) (c0_i32_280 : BitVec 32) : Fin 6 → Nat :=
  let c0_282 : Index := 0#32
  let c0_283 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_279 : BitVec 32 := 4#32
  let v533 : BitVec 32 := Scalar.subi v240 c4_i32_279
  let v534 : BitVec 32 := Scalar.subi v533 c0_i32_280
  let c0_i32_281 : BitVec 32 := 0#32
  let v535 : BitVec 32 := Scalar.maxsi v534 c0_i32_281
  let v536 : Index := Scalar.indexCast v535
  let c0_284 : Index := 0#32
  let c0_285 : Index := 0#32
  let c0_286 : Index := 0#32
  ![0, 0, v536.toNat, 0, 0, 0]
def k0_off28 (i : grid0.Coords) (k0_t2 : Fin (k0_t2_loop i).trips) (c0_i32_364 : BitVec 32) : Fin 6 → Nat :=
  let c0_366 : Index := 0#32
  let c0_367 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_363 : BitVec 32 := 4#32
  let v597 : BitVec 32 := Scalar.subi v240 c4_i32_363
  let v598 : BitVec 32 := Scalar.subi v597 c0_i32_364
  let c0_i32_365 : BitVec 32 := 0#32
  let v599 : BitVec 32 := Scalar.maxsi v598 c0_i32_365
  let v600 : Index := Scalar.indexCast v599
  let c1_368 : Index := 1#32
  let c0_369 : Index := 0#32
  let c0_370 : Index := 0#32
  ![0, 0, v600.toNat, 1, 0, 0]
def k0_cond5 (i : grid0.Coords) (k0_t2 : Fin (k0_t2_loop i).trips) : BitVec 1 :=
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c0_i32_501 : BitVec 32 := 0#32
  let v730 : BitVec 1 := Scalar.cmpi .sge v729 c0_i32_501
  let v731 : BitVec 32 := Scalar.extui v730
  let c0_i32_503 : BitVec 32 := 0#32
  let v732 : BitVec 1 := Scalar.cmpi .ne v731 c0_i32_503
  v732

def k0_off29 (i : grid0.Coords) (k0_t2 : Fin (k0_t2_loop i).trips) (c0_i32_504 : BitVec 32) : Fin 5 → Nat :=
  let c0_506 : Index := 0#32
  let c0_507 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let v734 : BitVec 32 := Scalar.subi v240 c0_i32_504
  let c0_i32_505 : BitVec 32 := 0#32
  let v735 : BitVec 32 := Scalar.maxsi v734 c0_i32_505
  let v736 : Index := Scalar.indexCast v735
  let c0_508 : Index := 0#32
  let c0_509 : Index := 0#32
  ![0, 0, v736.toNat, 0, 0]
def k0_off30 (i : grid0.Coords) (k0_t2 : Fin (k0_t2_loop i).trips) (c0_i32_548 : BitVec 32) : Fin 5 → Nat :=
  let c0_550 : Index := 0#32
  let c0_551 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let v766 : BitVec 32 := Scalar.subi v240 c0_i32_548
  let c0_i32_549 : BitVec 32 := 0#32
  let v767 : BitVec 32 := Scalar.maxsi v766 c0_i32_549
  let v768 : Index := Scalar.indexCast v767
  let c64_552 : Index := 64#32
  let c0_553 : Index := 0#32
  ![0, 0, v768.toNat, 64, 0]
def k0_off31 (i : grid0.Coords) (k0_t2 : Fin (k0_t2_loop i).trips) (c0_i32_668 : BitVec 32) : Fin 6 → Nat :=
  let c0_670 : Index := 0#32
  let c0_671 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c4_i32_667 : BitVec 32 := 4#32
  let v1026 : BitVec 32 := Scalar.subi v729 c4_i32_667
  let v1027 : BitVec 32 := Scalar.subi v1026 c0_i32_668
  let c0_i32_669 : BitVec 32 := 0#32
  let v1028 : BitVec 32 := Scalar.maxsi v1027 c0_i32_669
  let v1029 : Index := Scalar.indexCast v1028
  let c0_672 : Index := 0#32
  let c0_673 : Index := 0#32
  let c0_674 : Index := 0#32
  ![0, 0, v1029.toNat, 0, 0, 0]
def k0_off32 (i : grid0.Coords) (k0_t2 : Fin (k0_t2_loop i).trips) (c0_i32_752 : BitVec 32) : Fin 6 → Nat :=
  let c0_754 : Index := 0#32
  let c0_755 : Index := 0#32
  let arg2 : BitVec 32 := BitVec.ofNat 32 (i 2).val
  let c4_i32 : BitVec 32 := 4#32
  let v4 : BitVec 32 := Scalar.remsi arg2 c4_i32
  let c1_i32 : BitVec 32 := 1#32
  let v5 : BitVec 32 := Scalar.addi v4 c1_i32
  let v237 : BitVec 32 := Scalar.subi arg2 v5
  let c2_i32_114 : BitVec 32 := 2#32
  let c0_i32_19 : BitVec 32 := 0#32
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c1_i32_12 : BitVec 32 := 1#32
  let v28 : BitVec 32 := Scalar.addi v22 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c2_i32 : BitVec 32 := 2#32
  let c0_i32_15 : BitVec 32 := 0#32
  let v35 : BitVec 1 := Scalar.cmpi .sgt c2_i32 c0_i32_15
  let v36 : BitVec 32 := Scalar.extui v35
  let c0_i32_16 : BitVec 32 := 0#32
  let v37 : BitVec 1 := Scalar.cmpi .slt c2_i32 c0_i32_16
  let v38 : BitVec 32 := Scalar.extui v37
  let v39 : BitVec 32 := Scalar.subi v36 v38
  let v40 : BitVec 1 := Scalar.cmpi .ne v34 v39
  let v41 : BitVec 32 := Scalar.remsi v28 c2_i32
  let c0_i32_17 : BitVec 32 := 0#32
  let v42 : BitVec 1 := Scalar.cmpi .ne v41 c0_i32_17
  let v43 : BitVec 1 := Scalar.andi v40 v42
  let v29 : BitVec 32 := Scalar.divsi v28 c2_i32
  let c1_i32_18 : BitVec 32 := 1#32
  let v44 : BitVec 32 := Scalar.subi v29 c1_i32_18
  let v45 : BitVec 32 := Scalar.select v43 v44 v29
  let v46 : BitVec 32 := Scalar.subi v45 c0_i32_19
  let c1_i32_20 : BitVec 32 := 1#32
  let v48 : BitVec 32 := Scalar.divsi v46 c1_i32_20
  let v49 : BitVec 32 := Scalar.muli v48 c1_i32_20
  let v50 : BitVec 32 := Scalar.addi c0_i32_19 v49
  let c1_i32_22 : BitVec 32 := 1#32
  let arg11 : BitVec 32 := Scf.iv v50 c1_i32_22 k0_t2
  let v238 : BitVec 32 := Scalar.muli c2_i32_114 arg11
  let c4_i32_115 : BitVec 32 := 4#32
  let v239 : BitVec 32 := Scalar.muli v238 c4_i32_115
  let v240 : BitVec 32 := Scalar.subi v237 v239
  let c4_i32_500 : BitVec 32 := 4#32
  let v729 : BitVec 32 := Scalar.subi v240 c4_i32_500
  let c4_i32_751 : BitVec 32 := 4#32
  let v1090 : BitVec 32 := Scalar.subi v729 c4_i32_751
  let v1091 : BitVec 32 := Scalar.subi v1090 c0_i32_752
  let c0_i32_753 : BitVec 32 := 0#32
  let v1092 : BitVec 32 := Scalar.maxsi v1091 c0_i32_753
  let v1093 : Index := Scalar.indexCast v1092
  let c1_756 : Index := 1#32
  let c0_757 : Index := 0#32
  let c0_758 : Index := 0#32
  ![0, 0, v1093.toNat, 1, 0, 0]
def k0_off33 (v52_4 : BitVec 32) (c0_i32_24 : BitVec 32) : Fin 5 → Nat :=
  let c0 : Index := 0#32
  let c0_26 : Index := 0#32
  let v54 : BitVec 32 := Scalar.subi v52_4 c0_i32_24
  let c0_i32_25 : BitVec 32 := 0#32
  let v55 : BitVec 32 := Scalar.maxsi v54 c0_i32_25
  let v56 : Index := Scalar.indexCast v55
  let c0_27 : Index := 0#32
  let c0_28 : Index := 0#32
  ![0, 0, v56.toNat, 0, 0]

def k0_off34 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v59 : Index := Scalar.indexCast v53
  let c0_29 : Index := 0#32
  let c0_30 : Index := 0#32
  let c0_31 : Index := 0#32
  ![v59.toNat, 0, 0, 0]
def k0_off35 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v68 : Index := Scalar.indexCast v53
  let c1 : Index := 1#32
  let c0_39 : Index := 0#32
  let c0_40 : Index := 0#32
  ![v68.toNat, 1, 0, 0]
def k0_off36 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v77 : Index := Scalar.indexCast v53
  let c2 : Index := 2#32
  let c0_48 : Index := 0#32
  let c0_49 : Index := 0#32
  ![v77.toNat, 2, 0, 0]
def k0_off37 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v86 : Index := Scalar.indexCast v53
  let c3 : Index := 3#32
  let c0_57 : Index := 0#32
  let c0_58 : Index := 0#32
  ![v86.toNat, 3, 0, 0]
def k0_off38 (v52_4 : BitVec 32) (c0_i32_60 : BitVec 32) : Fin 5 → Nat :=
  let c0_62 : Index := 0#32
  let c0_63 : Index := 0#32
  let v90 : BitVec 32 := Scalar.subi v52_4 c0_i32_60
  let c0_i32_61 : BitVec 32 := 0#32
  let v91 : BitVec 32 := Scalar.maxsi v90 c0_i32_61
  let v92 : Index := Scalar.indexCast v91
  let c64 : Index := 64#32
  let c0_64 : Index := 0#32
  ![0, 0, v92.toNat, 64, 0]

def k0_chk3 (v52_4 : BitVec 32) : Prop :=
  (∀ (r : Fin 4), ∀ a, (k0_off33 v52_4 (BitVec.ofNat 32 r.val)) a + S1x1x1x64x256.size a ≤ S1x1x33x128x256.size a) ∧
  (∀ (r : Fin 4), ∀ a, (k0_off38 v52_4 (BitVec.ofNat 32 r.val)) a + S1x1x1x64x256.size a ≤ S1x1x33x128x256.size a)
theorem k0_off33_inb : ∀ (v52_4 : BitVec 32) (k0_hw3 : k0_chk3 v52_4), ∀ (r : Fin 4), ∀ a, (k0_off33 v52_4 (BitVec.ofNat 32 r.val)) a + S1x1x1x64x256.size a ≤ S1x1x33x128x256.size a := fun v52_4 k0_hw3 r => k0_hw3.1 r
theorem k0_off38_inb : ∀ (v52_4 : BitVec 32) (k0_hw3 : k0_chk3 v52_4), ∀ (r : Fin 4), ∀ a, (k0_off38 v52_4 (BitVec.ofNat 32 r.val)) a + S1x1x1x64x256.size a ≤ S1x1x33x128x256.size a := fun v52_4 k0_hw3 r => k0_hw3.2 r

def k0_off39 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v95 : Index := Scalar.indexCast v53
  let c4 : Index := 4#32
  let c0_65 : Index := 0#32
  let c0_66 : Index := 0#32
  ![v95.toNat, 4, 0, 0]
def k0_off40 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v104 : Index := Scalar.indexCast v53
  let c5 : Index := 5#32
  let c0_74 : Index := 0#32
  let c0_75 : Index := 0#32
  ![v104.toNat, 5, 0, 0]
def k0_off41 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v113 : Index := Scalar.indexCast v53
  let c6 : Index := 6#32
  let c0_83 : Index := 0#32
  let c0_84 : Index := 0#32
  ![v113.toNat, 6, 0, 0]
def k0_off42 (i : grid0.Coords) : Fin 4 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c4_i32_3 : BitVec 32 := 4#32
  let c0_i32_5 : BitVec 32 := 0#32
  let v12 : BitVec 1 := Scalar.cmpi .sgt c4_i32_3 c0_i32_5
  let v13 : BitVec 32 := Scalar.extui v12
  let c0_i32_6 : BitVec 32 := 0#32
  let v14 : BitVec 1 := Scalar.cmpi .slt c4_i32_3 c0_i32_6
  let v15 : BitVec 32 := Scalar.extui v14
  let v16 : BitVec 32 := Scalar.subi v13 v15
  let v17 : BitVec 1 := Scalar.cmpi .ne v11 v16
  let v18 : BitVec 32 := Scalar.remsi arg2 c4_i32_3
  let c0_i32_7 : BitVec 32 := 0#32
  let v19 : BitVec 1 := Scalar.cmpi .ne v18 c0_i32_7
  let v20 : BitVec 1 := Scalar.andi v17 v19
  let v6 : BitVec 32 := Scalar.divsi arg2 c4_i32_3
  let c1_i32_8 : BitVec 32 := 1#32
  let v21 : BitVec 32 := Scalar.subi v6 c1_i32_8
  let v22 : BitVec 32 := Scalar.select v20 v21 v6
  let c2_i32_23 : BitVec 32 := 2#32
  let v53 : BitVec 32 := Scalar.remsi v22 c2_i32_23
  let v122 : Index := Scalar.indexCast v53
  let c7 : Index := 7#32
  let c0_92 : Index := 0#32
  let c0_93 : Index := 0#32
  ![v122.toNat, 7, 0, 0]
def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x33x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1x2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x33x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8448x1024 : Shape := ⟨3, ![2, 8448, 1024]⟩
abbrev S16 : Shape := ⟨1, ![16]⟩
abbrev S2x8448x16x64 : Shape := ⟨4, ![2, 8448, 16, 64]⟩
abbrev S2x16x8448x8448 : Shape := ⟨4, ![2, 16, 8448, 8448]⟩
abbrev S_ : Shape := ⟨0, ![]⟩
abbrev S1x16x1x1 : Shape := ⟨4, ![1, 16, 1, 1]⟩
abbrev S8448x8448 : Shape := ⟨2, ![8448, 8448]⟩
abbrev S2x16x64x8448 : Shape := ⟨4, ![2, 16, 64, 8448]⟩

abbrev nBuf : Space → Nat
  | .hbm => 69
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8448x1024, .f32⟩
  | .hbm, ⟨3, _⟩ => ⟨S16, .f32⟩
  | .hbm, ⟨4, _⟩ => ⟨S2x8448x16x64, .f32⟩
  | .hbm, ⟨5, _⟩ => ⟨S2x8448x16x64, .f32⟩
  | .hbm, ⟨6, _⟩ => ⟨S2x8448x16x64, .f32⟩
  | .hbm, ⟨7, _⟩ => ⟨S2x16x8448x8448, .f32⟩
  | .hbm, ⟨8, _⟩ => ⟨S_, .f32⟩
  | .hbm, ⟨9, _⟩ => ⟨S2x16x8448x8448, .f32⟩
  | .hbm, ⟨10, _⟩ => ⟨S2x16x8448x8448, .f32⟩
  | .hbm, ⟨11, _⟩ => ⟨S1x16x1x1, .f32⟩
  | .hbm, ⟨12, _⟩ => ⟨S2x16x8448x8448, .f32⟩
  | .hbm, ⟨13, _⟩ => ⟨S2x16x8448x8448, .f32⟩
  | .hbm, ⟨14, _⟩ => ⟨S8448x8448, .i32⟩
  | .hbm, ⟨15, _⟩ => ⟨S8448x8448, .i32⟩
  | .hbm, ⟨16, _⟩ => ⟨S8448x8448, .i1⟩
  | .hbm, ⟨17, _⟩ => ⟨S2x16x8448x8448, .f32⟩
  | .hbm, ⟨18, _⟩ => ⟨S_, .f32⟩
  | .hbm, ⟨19, _⟩ => ⟨S2x16x8448x8448, .f32⟩
  | .hbm, ⟨20, _⟩ => ⟨S2x16x8448x8448, .f32⟩
  | .hbm, ⟨21, _⟩ => ⟨S2x16x8448x8448, .f32⟩
  | .hbm, ⟨22, _⟩ => ⟨S2x16x8448x8448, .f32⟩
  | .hbm, ⟨23, _⟩ => ⟨S2x16x8448x8448, .i1⟩
  | .hbm, ⟨24, _⟩ => ⟨S2x16x8448x8448, .f32⟩
  | .hbm, ⟨25, _⟩ => ⟨S2x16x8448x8448, .f32⟩
  | .hbm, ⟨26, _⟩ => ⟨S2x16x8448x8448, .f32⟩
  | .hbm, ⟨27, _⟩ => ⟨S2x16x8448x8448, .f32⟩
  | .hbm, ⟨28, _⟩ => ⟨S2x16x8448x8448, .f32⟩
  | .hbm, ⟨29, _⟩ => ⟨S2x16x8448x8448, .f32⟩
  | .hbm, ⟨30, _⟩ => ⟨S2x16x8448x8448, .f32⟩
  | .hbm, ⟨31, _⟩ => ⟨S2x16x8448x8448, .f32⟩
  | .hbm, ⟨32, _⟩ => ⟨S2x16x8448x8448, .f32⟩
  | .hbm, ⟨33, _⟩ => ⟨S2x16x8448x8448, .f32⟩
  | .hbm, ⟨34, _⟩ => ⟨S2x16x8448x8448, .f32⟩
  | .hbm, ⟨35, _⟩ => ⟨S_, .f32⟩
  | .hbm, ⟨36, _⟩ => ⟨S2x16x8448x8448, .f32⟩
  | .hbm, ⟨37, _⟩ => ⟨S2x16x8448x8448, .f32⟩
  | .hbm, ⟨38, _⟩ => ⟨S2x16x8448x8448, .f32⟩
  | .hbm, ⟨39, _⟩ => ⟨S2x16x8448x8448, .f32⟩
  | .hbm, ⟨40, _⟩ => ⟨S2x16x8448x8448, .i1⟩
  | .hbm, ⟨41, _⟩ => ⟨S2x16x8448x8448, .f32⟩
  | .hbm, ⟨42, _⟩ => ⟨S2x16x8448x8448, .f32⟩
  | .hbm, ⟨43, _⟩ => ⟨S2x16x8448x8448, .f32⟩
  | .hbm, ⟨44, _⟩ => ⟨S2x16x8448x8448, .f32⟩
  | .hbm, ⟨45, _⟩ => ⟨S2x16x8448x8448, .f32⟩
  | .hbm, ⟨46, _⟩ => ⟨S2x16x8448x8448, .f32⟩
  | .hbm, ⟨47, _⟩ => ⟨S2x16x8448x8448, .f32⟩
  | .hbm, ⟨48, _⟩ => ⟨S2x16x8448x8448, .f32⟩
  | .hbm, ⟨49, _⟩ => ⟨S2x16x8448x8448, .f32⟩
  | .hbm, ⟨50, _⟩ => ⟨S_, .f32⟩
  | .hbm, ⟨51, _⟩ => ⟨S_, .f32⟩
  | .hbm, ⟨52, _⟩ => ⟨S2x16x8448x8448, .i1⟩
  | .hbm, ⟨53, _⟩ => ⟨S2x16x8448x8448, .f32⟩
  | .hbm, ⟨54, _⟩ => ⟨S2x16x8448x8448, .f32⟩
  | .hbm, ⟨55, _⟩ => ⟨S_, .f32⟩
  | .hbm, ⟨56, _⟩ => ⟨S_, .f32⟩
  | .hbm, ⟨57, _⟩ => ⟨S2x16x8448x8448, .f32⟩
  | .hbm, ⟨58, _⟩ => ⟨S2x16x8448x8448, .f32⟩
  | .hbm, ⟨59, _⟩ => ⟨S2x16x8448x8448, .f32⟩
  | .hbm, ⟨60, _⟩ => ⟨S2x16x8448x8448, .f32⟩
  | .hbm, ⟨61, _⟩ => ⟨S_, .f32⟩
  | .hbm, ⟨62, _⟩ => ⟨S_, .f32⟩
  | .hbm, ⟨63, _⟩ => ⟨S2x16x8448x8448, .i1⟩
  | .hbm, ⟨64, _⟩ => ⟨S2x16x8448x8448, .f32⟩
  | .hbm, ⟨65, _⟩ => ⟨S2x16x8448x8448, .f32⟩
  | .hbm, ⟨66, _⟩ => ⟨S2x16x64x8448, .f32⟩
  | .hbm, ⟨67, _⟩ => ⟨S2x8448x16x64, .f32⟩
  | .hbm, ⟨68, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩

abbrev nD : Nat := 1
abbrev τ : Topo := Topo.v7x

variable {F : FTy → Type} [FloatOps F]
-- ==== Proof.Offsets.lean ====
module

public import proofs.«01_k».proof.Proof.Gen.KernelIdeal.Skeleton
public import Idealize.ShloMosaic.Lib.VecWindow

/-! The offsets the kernel computes, in closed form: everything below depends on the query tile `q` (the third grid
coordinate) and on the trip number alone, so each equation is decided over the 33 tiles. -/

@[expose] public section

namespace Cert.Proof.Sb

open Cert.KernelIdeal Cert.KernelIdeal.Gen
open Idealize.ShloMosaic

/-- A grid point with query tile `q`. -/
def pt33 (q : Fin 33) : grid0.Coords := fun a => match a with
  | 0 => (0 : Fin 2)
  | 1 => (0 : Fin 8)
  | 2 => q

/-- The newest key tile of group `g` for query tile `q`: the tile itself for the first group, then four tiles further back
per group (truncated at tile 0). -/
def newest (q g : ℕ) : ℕ := if g = 0 then q else q - (q % 4 + 1) - 4 * (g - 1)

/-- How many of the four tiles of group `g` are live. -/
def live (q g : ℕ) : ℕ := if g = 0 then q % 4 + 1 else 4

theorem newest_le (q g : ℕ) : newest q g ≤ q := by unfold newest; split <;> omega

/-- The `k`-th key tile of group `g`. -/
def tile (q : Fin 33) (g : ℕ) (k : Fin 4) : Fin 33 :=
  ⟨newest q.val g - k.val, by have := newest_le q.val g; have := q.isLt; omega⟩

theorem cond1_iff (i : grid0.Coords) : k0_cond1 i = 1#1 ↔ (i 2).val % 4 ≠ 0 :=
  (show ∀ q : Fin 33, k0_cond1 (pt33 q) = 1#1 ↔ q.val % 4 ≠ 0 by decide +kernel) (i 2)
theorem cond2_iff (i : grid0.Coords) (h : (i 2).val % 4 ≠ 0) : k0_cond2 i = 1#1 ↔ (i 2).val % 4 ≠ 1 :=
  (show ∀ q : Fin 33, q.val % 4 ≠ 0 → (k0_cond2 (pt33 q) = 1#1 ↔ q.val % 4 ≠ 1) by decide +kernel) (i 2) h
theorem cond3_iff (i : grid0.Coords) (h : (i 2).val % 4 ≠ 0) (h' : (i 2).val % 4 ≠ 1) : k0_cond3 i = 1#1 ↔ (i 2).val % 4 = 3 :=
  (show ∀ q : Fin 33, q.val % 4 ≠ 0 → q.val % 4 ≠ 1 → (k0_cond3 (pt33 q) = 1#1 ↔ q.val % 4 = 3) by decide +kernel) (i 2) h h'
theorem cond4_iff (i : grid0.Coords) (k : Fin (k0_t1_loop i).trips) : k0_cond4 i k = 1#1 ↔ 2 * k.val + 2 ≤ (i 2).val / 4 :=
  (show ∀ q : Fin 33, ∀ k : Fin (k0_t1_loop (pt33 q)).trips, k0_cond4 (pt33 q) k = 1#1 ↔ 2 * k.val + 2 ≤ q.val / 4 by decide +kernel) (i 2) k
theorem trips_eq (i : grid0.Coords) : (k0_t1_loop i).trips = ((i 2).val / 4 + 1) / 2 :=
  (show ∀ q : Fin 33, (k0_t1_loop (pt33 q)).trips = (q.val / 4 + 1) / 2 by decide +kernel) (i 2)
theorem trips2_eq (i : grid0.Coords) : (k0_t2_loop i).trips = 0 :=
  (show ∀ q : Fin 33, (k0_t2_loop (pt33 q)).trips = 0 by decide +kernel) (i 2)

theorem off1_eq (i : grid0.Coords) (h : (i 2).val % 4 = 3) (r : Fin 4) :
    k0_off1 i (BitVec.ofNat 32 r.val) = ![0, 0, (tile (i 2) 0 r).val, 0, 0, 0] :=
  (show ∀ q : Fin 33, q.val % 4 = 3 → ∀ r : Fin 4, k0_off1 (pt33 q) (BitVec.ofNat 32 r.val) = ![0, 0, (tile q 0 r).val, 0, 0, 0] by decide +kernel) (i 2) h r

theorem off2_eq (i : grid0.Coords) (h : (i 2).val % 4 = 3) (r : Fin 4) :
    k0_off2 i (BitVec.ofNat 32 r.val) = ![0, 0, (tile (i 2) 0 r).val, 1, 0, 0] :=
  (show ∀ q : Fin 33, q.val % 4 = 3 → ∀ r : Fin 4, k0_off2 (pt33 q) (BitVec.ofNat 32 r.val) = ![0, 0, (tile q 0 r).val, 1, 0, 0] by decide +kernel) (i 2) h r

theorem off3_eq (i : grid0.Coords) (h : (i 2).val % 4 = 3) (r : Fin 4) :
    k0_off3 i (BitVec.ofNat 32 r.val) = ![0, 0, (tile (i 2) 1 r).val, 0, 0, 0] :=
  (show ∀ q : Fin 33, q.val % 4 = 3 → ∀ r : Fin 4, k0_off3 (pt33 q) (BitVec.ofNat 32 r.val) = ![0, 0, (tile q 1 r).val, 0, 0, 0] by decide +kernel) (i 2) h r

theorem off4_eq (i : grid0.Coords) (h : (i 2).val % 4 = 3) (r : Fin 4) :
    k0_off4 i (BitVec.ofNat 32 r.val) = ![0, 0, (tile (i 2) 1 r).val, 1, 0, 0] :=
  (show ∀ q : Fin 33, q.val % 4 = 3 → ∀ r : Fin 4, k0_off4 (pt33 q) (BitVec.ofNat 32 r.val) = ![0, 0, (tile q 1 r).val, 1, 0, 0] by decide +kernel) (i 2) h r

theorem off5_eq (i : grid0.Coords) (h : (i 2).val % 4 = 2) (r : Fin 3) :
    k0_off5 i (BitVec.ofNat 32 r.val) = ![0, 0, (tile (i 2) 0 (r.castLE (by decide : _ ≤ 4))).val, 0, 0, 0] :=
  (show ∀ q : Fin 33, q.val % 4 = 2 → ∀ r : Fin 3, k0_off5 (pt33 q) (BitVec.ofNat 32 r.val) = ![0, 0, (tile q 0 (r.castLE (by decide : _ ≤ 4))).val, 0, 0, 0] by decide +kernel) (i 2) h r

theorem off6_eq (i : grid0.Coords) (h : (i 2).val % 4 = 2) (r : Fin 3) :
    k0_off6 i (BitVec.ofNat 32 r.val) = ![0, 0, (tile (i 2) 0 (r.castLE (by decide : _ ≤ 4))).val, 1, 0, 0] :=
  (show ∀ q : Fin 33, q.val % 4 = 2 → ∀ r : Fin 3, k0_off6 (pt33 q) (BitVec.ofNat 32 r.val) = ![0, 0, (tile q 0 (r.castLE (by decide : _ ≤ 4))).val, 1, 0, 0] by decide +kernel) (i 2) h r

theorem off7_eq (i : grid0.Coords) (h : (i 2).val % 4 = 2) (r : Fin 4) :
    k0_off7 i (BitVec.ofNat 32 r.val) = ![0, 0, (tile (i 2) 1 r).val, 0, 0, 0] :=
  (show ∀ q : Fin 33, q.val % 4 = 2 → ∀ r : Fin 4, k0_off7 (pt33 q) (BitVec.ofNat 32 r.val) = ![0, 0, (tile q 1 r).val, 0, 0, 0] by decide +kernel) (i 2) h r

theorem off8_eq (i : grid0.Coords) (h : (i 2).val % 4 = 2) (r : Fin 4) :
    k0_off8 i (BitVec.ofNat 32 r.val) = ![0, 0, (tile (i 2) 1 r).val, 1, 0, 0] :=
  (show ∀ q : Fin 33, q.val % 4 = 2 → ∀ r : Fin 4, k0_off8 (pt33 q) (BitVec.ofNat 32 r.val) = ![0, 0, (tile q 1 r).val, 1, 0, 0] by decide +kernel) (i 2) h r

theorem off9_eq (i : grid0.Coords) (h : (i 2).val % 4 = 1) (r : Fin 2) :
    k0_off9 i (BitVec.ofNat 32 r.val) = ![0, 0, (tile (i 2) 0 (r.castLE (by decide : _ ≤ 4))).val, 0, 0, 0] :=
  (show ∀ q : Fin 33, q.val % 4 = 1 → ∀ r : Fin 2, k0_off9 (pt33 q) (BitVec.ofNat 32 r.val) = ![0, 0, (tile q 0 (r.castLE (by decide : _ ≤ 4))).val, 0, 0, 0] by decide +kernel) (i 2) h r

theorem off10_eq (i : grid0.Coords) (h : (i 2).val % 4 = 1) (r : Fin 2) :
    k0_off10 i (BitVec.ofNat 32 r.val) = ![0, 0, (tile (i 2) 0 (r.castLE (by decide : _ ≤ 4))).val, 1, 0, 0] :=
  (show ∀ q : Fin 33, q.val % 4 = 1 → ∀ r : Fin 2, k0_off10 (pt33 q) (BitVec.ofNat 32 r.val) = ![0, 0, (tile q 0 (r.castLE (by decide : _ ≤ 4))).val, 1, 0, 0] by decide +kernel) (i 2) h r

theorem off11_eq (i : grid0.Coords) (h : (i 2).val % 4 = 1) (r : Fin 4) :
    k0_off11 i (BitVec.ofNat 32 r.val) = ![0, 0, (tile (i 2) 1 r).val, 0, 0, 0] :=
  (show ∀ q : Fin 33, q.val % 4 = 1 → ∀ r : Fin 4, k0_off11 (pt33 q) (BitVec.ofNat 32 r.val) = ![0, 0, (tile q 1 r).val, 0, 0, 0] by decide +kernel) (i 2) h r

theorem off12_eq (i : grid0.Coords) (h : (i 2).val % 4 = 1) (r : Fin 4) :
    k0_off12 i (BitVec.ofNat 32 r.val) = ![0, 0, (tile (i 2) 1 r).val, 1, 0, 0] :=
  (show ∀ q : Fin 33, q.val % 4 = 1 → ∀ r : Fin 4, k0_off12 (pt33 q) (BitVec.ofNat 32 r.val) = ![0, 0, (tile q 1 r).val, 1, 0, 0] by decide +kernel) (i 2) h r

theorem off13_eq (i : grid0.Coords) (h : (i 2).val % 4 = 0) : k0_off13 i = ![0, 0, (tile (i 2) 0 0).val, 0, 0, 0] :=
  (show ∀ q : Fin 33, q.val % 4 = 0 → k0_off13 (pt33 q) = ![0, 0, (tile q 0 0).val, 0, 0, 0] by decide +kernel) (i 2) h

theorem off14_eq (i : grid0.Coords) (h : (i 2).val % 4 = 0) : k0_off14 i = ![0, 0, (tile (i 2) 0 0).val, 1, 0, 0] :=
  (show ∀ q : Fin 33, q.val % 4 = 0 → k0_off14 (pt33 q) = ![0, 0, (tile q 0 0).val, 1, 0, 0] by decide +kernel) (i 2) h

theorem off15_eq (i : grid0.Coords) (h : (i 2).val % 4 = 0) (r : Fin 4) :
    k0_off15 i (BitVec.ofNat 32 r.val) = ![0, 0, (tile (i 2) 1 r).val, 0, 0, 0] :=
  (show ∀ q : Fin 33, q.val % 4 = 0 → ∀ r : Fin 4, k0_off15 (pt33 q) (BitVec.ofNat 32 r.val) = ![0, 0, (tile q 1 r).val, 0, 0, 0] by decide +kernel) (i 2) h r

theorem off16_eq (i : grid0.Coords) (h : (i 2).val % 4 = 0) (r : Fin 4) :
    k0_off16 i (BitVec.ofNat 32 r.val) = ![0, 0, (tile (i 2) 1 r).val, 1, 0, 0] :=
  (show ∀ q : Fin 33, q.val % 4 = 0 → ∀ r : Fin 4, k0_off16 (pt33 q) (BitVec.ofNat 32 r.val) = ![0, 0, (tile q 1 r).val, 1, 0, 0] by decide +kernel) (i 2) h r

theorem off17_eq (q : Fin 33) (g : ℕ) (r : Fin 4) :
    k0_off17 (BitVec.ofNat 32 (newest q.val g)) (BitVec.ofNat 32 r.val) = ![0, 0, (tile q g r).val, 0, 0] :=
  (show ∀ j : Fin 33, ∀ r : Fin 4, k0_off17 (BitVec.ofNat 32 j.val) (BitVec.ofNat 32 r.val) = ![0, 0, j.val - r.val, 0, 0] by decide +kernel)
    ⟨newest q.val g, by have := newest_le q.val g; have := q.isLt; omega⟩ r

theorem off18_eq (q : Fin 33) (g : ℕ) (r : Fin 4) :
    k0_off18 (BitVec.ofNat 32 (newest q.val g)) (BitVec.ofNat 32 r.val) = ![0, 0, (tile q g r).val, 64, 0] :=
  (show ∀ j : Fin 33, ∀ r : Fin 4, k0_off18 (BitVec.ofNat 32 j.val) (BitVec.ofNat 32 r.val) = ![0, 0, j.val - r.val, 64, 0] by decide +kernel)
    ⟨newest q.val g, by have := newest_le q.val g; have := q.isLt; omega⟩ r

theorem off33_eq (q : Fin 33) (g : ℕ) (r : Fin 4) :
    k0_off33 (BitVec.ofNat 32 (newest q.val g)) (BitVec.ofNat 32 r.val) = ![0, 0, (tile q g r).val, 0, 0] :=
  (show ∀ j : Fin 33, ∀ r : Fin 4, k0_off33 (BitVec.ofNat 32 j.val) (BitVec.ofNat 32 r.val) = ![0, 0, j.val - r.val, 0, 0] by decide +kernel)
    ⟨newest q.val g, by have := newest_le q.val g; have := q.isLt; omega⟩ r

theorem off38_eq (q : Fin 33) (g : ℕ) (r : Fin 4) :
    k0_off38 (BitVec.ofNat 32 (newest q.val g)) (BitVec.ofNat 32 r.val) = ![0, 0, (tile q g r).val, 64, 0] :=
  (show ∀ j : Fin 33, ∀ r : Fin 4, k0_off38 (BitVec.ofNat 32 j.val) (BitVec.ofNat 32 r.val) = ![0, 0, j.val - r.val, 64, 0] by decide +kernel)
    ⟨newest q.val g, by have := newest_le q.val g; have := q.isLt; omega⟩ r

theorem off19_eq (i : grid0.Coords) (k : Fin (k0_t1_loop i).trips) (r : Fin 4) :
    k0_off19 i k (BitVec.ofNat 32 r.val) = ![0, 0, (tile (i 2) (2 * k.val + 2) r).val, 0, 0, 0] :=
  (show ∀ q : Fin 33, ∀ k : Fin (k0_t1_loop (pt33 q)).trips, ∀ r : Fin 4, k0_off19 (pt33 q) k (BitVec.ofNat 32 r.val) = ![0, 0, (tile q (2 * k.val + 2) r).val, 0, 0, 0] by decide +kernel) (i 2) k r

theorem off20_eq (i : grid0.Coords) (k : Fin (k0_t1_loop i).trips) (r : Fin 4) :
    k0_off20 i k (BitVec.ofNat 32 r.val) = ![0, 0, (tile (i 2) (2 * k.val + 2) r).val, 1, 0, 0] :=
  (show ∀ q : Fin 33, ∀ k : Fin (k0_t1_loop (pt33 q)).trips, ∀ r : Fin 4, k0_off20 (pt33 q) k (BitVec.ofNat 32 r.val) = ![0, 0, (tile q (2 * k.val + 2) r).val, 1, 0, 0] by decide +kernel) (i 2) k r

theorem off21_eq (i : grid0.Coords) (k : Fin (k0_t1_loop i).trips) (r : Fin 4) :
    k0_off21 i k (BitVec.ofNat 32 r.val) = ![0, 0, (tile (i 2) (2 * k.val + 1) r).val, 0, 0] :=
  (show ∀ q : Fin 33, ∀ k : Fin (k0_t1_loop (pt33 q)).trips, ∀ r : Fin 4, k0_off21 (pt33 q) k (BitVec.ofNat 32 r.val) = ![0, 0, (tile q (2 * k.val + 1) r).val, 0, 0] by decide +kernel) (i 2) k r

theorem off22_eq (i : grid0.Coords) (k : Fin (k0_t1_loop i).trips) (r : Fin 4) :
    k0_off22 i k (BitVec.ofNat 32 r.val) = ![0, 0, (tile (i 2) (2 * k.val + 1) r).val, 64, 0] :=
  (show ∀ q : Fin 33, ∀ k : Fin (k0_t1_loop (pt33 q)).trips, ∀ r : Fin 4, k0_off22 (pt33 q) k (BitVec.ofNat 32 r.val) = ![0, 0, (tile q (2 * k.val + 1) r).val, 64, 0] by decide +kernel) (i 2) k r

theorem off23_eq (i : grid0.Coords) (k : Fin (k0_t1_loop i).trips) (h : 2 * k.val + 2 ≤ (i 2).val / 4) (r : Fin 4) :
    k0_off23 i k (BitVec.ofNat 32 r.val) = ![0, 0, (tile (i 2) (2 * k.val + 3) r).val, 0, 0, 0] :=
  (show ∀ q : Fin 33, ∀ k : Fin (k0_t1_loop (pt33 q)).trips, 2 * k.val + 2 ≤ q.val / 4 → ∀ r : Fin 4, k0_off23 (pt33 q) k (BitVec.ofNat 32 r.val) = ![0, 0, (tile q (2 * k.val + 3) r).val, 0, 0, 0] by decide +kernel) (i 2) k h r

theorem off24_eq (i : grid0.Coords) (k : Fin (k0_t1_loop i).trips) (h : 2 * k.val + 2 ≤ (i 2).val / 4) (r : Fin 4) :
    k0_off24 i k (BitVec.ofNat 32 r.val) = ![0, 0, (tile (i 2) (2 * k.val + 3) r).val, 1, 0, 0] :=
  (show ∀ q : Fin 33, ∀ k : Fin (k0_t1_loop (pt33 q)).trips, 2 * k.val + 2 ≤ q.val / 4 → ∀ r : Fin 4, k0_off24 (pt33 q) k (BitVec.ofNat 32 r.val) = ![0, 0, (tile q (2 * k.val + 3) r).val, 1, 0, 0] by decide +kernel) (i 2) k h r

theorem off34_eq (i : grid0.Coords) : k0_off34 i = ![((i 2).val / 4) % 2, 0, 0, 0] :=
  (show ∀ q : Fin 33, k0_off34 (pt33 q) = ![(q.val / 4) % 2, 0, 0, 0] by decide +kernel) (i 2)

theorem off35_eq (i : grid0.Coords) : k0_off35 i = ![((i 2).val / 4) % 2, 1, 0, 0] :=
  (show ∀ q : Fin 33, k0_off35 (pt33 q) = ![(q.val / 4) % 2, 1, 0, 0] by decide +kernel) (i 2)

theorem off36_eq (i : grid0.Coords) : k0_off36 i = ![((i 2).val / 4) % 2, 2, 0, 0] :=
  (show ∀ q : Fin 33, k0_off36 (pt33 q) = ![(q.val / 4) % 2, 2, 0, 0] by decide +kernel) (i 2)

theorem off37_eq (i : grid0.Coords) : k0_off37 i = ![((i 2).val / 4) % 2, 3, 0, 0] :=
  (show ∀ q : Fin 33, k0_off37 (pt33 q) = ![(q.val / 4) % 2, 3, 0, 0] by decide +kernel) (i 2)

theorem off39_eq (i : grid0.Coords) : k0_off39 i = ![((i 2).val / 4) % 2, 4, 0, 0] :=
  (show ∀ q : Fin 33, k0_off39 (pt33 q) = ![(q.val / 4) % 2, 4, 0, 0] by decide +kernel) (i 2)

theorem off40_eq (i : grid0.Coords) : k0_off40 i = ![((i 2).val / 4) % 2, 5, 0, 0] :=
  (show ∀ q : Fin 33, k0_off40 (pt33 q) = ![(q.val / 4) % 2, 5, 0, 0] by decide +kernel) (i 2)

theorem off41_eq (i : grid0.Coords) : k0_off41 i = ![((i 2).val / 4) % 2, 6, 0, 0] :=
  (show ∀ q : Fin 33, k0_off41 (pt33 q) = ![(q.val / 4) % 2, 6, 0, 0] by decide +kernel) (i 2)

theorem off42_eq (i : grid0.Coords) : k0_off42 i = ![((i 2).val / 4) % 2, 7, 0, 0] :=
  (show ∀ q : Fin 33, k0_off42 (pt33 q) = ![(q.val / 4) % 2, 7, 0, 0] by decide +kernel) (i 2)

/-- The side condition of the values' loads in a trip, at the tiles of group `g`. -/
theorem chk1_of (i : grid0.Coords) (k : Fin (k0_t1_loop i).trips) (q : Fin 33) (g : ℕ) :
    k0_chk1 i k (BitVec.ofNat 32 (newest q.val g)) := by
  have ht : ∀ r, (tile q g r).val < 33 := fun r => (tile q g r).isLt
  constructor <;> intro r a
  · rw [off17_eq]; have := ht r; fin_cases a <;> simp <;> omega
  · rw [off18_eq]; have := ht r; fin_cases a <;> simp <;> omega

/-- The side condition of the values' loads after the loop. -/
theorem chk3_of (q : Fin 33) (g : ℕ) : k0_chk3 (BitVec.ofNat 32 (newest q.val g)) := by
  have ht : ∀ r, (tile q g r).val < 33 := fun r => (tile q g r).isLt
  constructor <;> intro r a
  · rw [off33_eq]; have := ht r; fin_cases a <;> simp <;> omega
  · rw [off38_eq]; have := ht r; fin_cases a <;> simp <;> omega

/-- The word the loop carries after a trip: the newest tile of the odd group. -/
theorem word_newest (q : Fin 33) (k : ℕ) (hk : 2 * k + 1 ≤ q.val / 4) :
    Scalar.subi (Scalar.subi (BitVec.ofNat 32 q.val) (Scalar.addi (Scalar.remsi (BitVec.ofNat 32 q.val) 4#32) 1#32))
      (Scalar.muli (Scalar.muli 2#32 (Scf.iv 0#32 1#32 k)) 4#32) = BitVec.ofNat 32 (newest q.val (2 * k + 1)) :=
  (show ∀ q : Fin 33, ∀ k : Fin 4, 2 * k.val + 1 ≤ q.val / 4 → Scalar.subi (Scalar.subi (BitVec.ofNat 32 q.val) (Scalar.addi (Scalar.remsi (BitVec.ofNat 32 q.val) 4#32) 1#32))
      (Scalar.muli (Scalar.muli 2#32 (Scf.iv 0#32 1#32 k.val)) 4#32) = BitVec.ofNat 32 (newest q.val (2 * k.val + 1)) by decide +kernel) q ⟨k, by have := q.isLt; omega⟩ hk

/-- The word the loop carries after a trip that runs the even group as well. -/
theorem word_newest2 (q : Fin 33) (k : ℕ) (hk : 2 * k + 2 ≤ q.val / 4) :
    Scalar.subi (Scalar.subi (Scalar.subi (BitVec.ofNat 32 q.val) (Scalar.addi (Scalar.remsi (BitVec.ofNat 32 q.val) 4#32) 1#32))
      (Scalar.muli (Scalar.muli 2#32 (Scf.iv 0#32 1#32 k)) 4#32)) 4#32 = BitVec.ofNat 32 (newest q.val (2 * k + 2)) :=
  (show ∀ q : Fin 33, ∀ k : Fin 4, 2 * k.val + 2 ≤ q.val / 4 → Scalar.subi (Scalar.subi (Scalar.subi (BitVec.ofNat 32 q.val) (Scalar.addi (Scalar.remsi (BitVec.ofNat 32 q.val) 4#32) 1#32))
      (Scalar.muli (Scalar.muli 2#32 (Scf.iv 0#32 1#32 k.val)) 4#32)) 4#32 = BitVec.ofNat 32 (newest q.val (2 * k.val + 2)) by decide +kernel) q ⟨k, by have := q.isLt; omega⟩ hk

end Cert.Proof.Sb
-- ==== Proof.Model.lean ====
module

public import proofs.«01_k».proof.Proof.Offsets
public import Idealize.ShloMosaic.Lib.VecWindow

/-! What one grid point of the kernel computes, as functions of its blocks: the scores of a key tile, its
softplus, the column sums above each key, the weights, and the fold of a group of four tiles into the accumulator. -/

@[expose] public section

noncomputable section

namespace Cert.Proof.Sb

open Cert.KernelIdeal Cert.KernelIdeal.Gen
open Idealize.ShloMosaic

variable {F : FTy → Type} [FloatOps F] [Named F]

abbrev Sq (F : FTy → Type) := FVec F S256x256 .f32
abbrev ZB (F : FTy → Type) := FVec F S1x256x256 .f32
abbrev PB (F : FTy → Type) := FVec F S1x1x256x256 .bf16
abbrev KB (F : FTy → Type) := FVec F S1x1x1x1x256x128 .bf16
abbrev QB (F : FTy → Type) := FVec F S1x1x1x1x128x256 .bf16
abbrev VB (F : FTy → Type) := FVec F S1x1x1x64x256 .bf16
abbrev Row (F : FTy → Type) := FVec F S1x256 .f32
abbrev Acc (F : FTy → Type) := FVec F S64x256 .f32

/-- The blocks one grid point reads: packed keys, transposed queries, transposed values, the triangle. -/
structure Blocks (F : FTy → Type) where
  k : FVec F S1x1x33x2x256x128 .bf16
  q : FVec F S1x1x1x2x128x256 .bf16
  v : FVec F S1x1x33x128x256 .bf16
  u : FVec F S256x256 .bf16

def kOff (t : Fin 33) (hh : Fin 2) : Fin 6 → ℕ := ![0, 0, t.val, hh.val, 0, 0]
def qOff (hh : Fin 2) : Fin 6 → ℕ := ![0, 0, 0, hh.val, 0, 0]
def vOff (t : Fin 33) (hh : Fin 2) : Fin 5 → ℕ := ![0, 0, t.val, 64 * hh.val, 0]
def zOff (hh : Fin 2) (k : Fin 4) : Fin 3 → ℕ := ![4 * hh.val + k.val, 0, 0]
def pOff (g : Fin 2) (hh : Fin 2) (k : Fin 4) : Fin 4 → ℕ := ![g.val, 4 * hh.val + k.val, 0, 0]

theorem kOff_inb (t : Fin 33) (hh : Fin 2) : ∀ a, kOff t hh a + S1x1x1x1x256x128.size a ≤ S1x1x33x2x256x128.size a := by
  intro a; have := t.isLt; have := hh.isLt; fin_cases a <;> simp [kOff] <;> omega
theorem qOff_inb (hh : Fin 2) : ∀ a, qOff hh a + S1x1x1x1x128x256.size a ≤ S1x1x1x2x128x256.size a := by
  intro a; have := hh.isLt; fin_cases a <;> simp [qOff] <;> omega
theorem vOff_inb (t : Fin 33) (hh : Fin 2) : ∀ a, vOff t hh a + S1x1x1x64x256.size a ≤ S1x1x33x128x256.size a := by
  intro a; have := t.isLt; have := hh.isLt; fin_cases a <;> simp [vOff] <;> omega
theorem zOff_inb (hh : Fin 2) (k : Fin 4) : ∀ a, zOff hh k a + S1x256x256.size a ≤ S8x256x256.size a := by
  intro a; have := k.isLt; have := hh.isLt; fin_cases a <;> simp [zOff] <;> omega
theorem pOff_inb (g : Fin 2) (hh : Fin 2) (k : Fin 4) : ∀ a, pOff g hh k a + S1x1x256x256.size a ≤ S2x8x256x256.size a := by
  intro a; have := g.isLt; have := k.isLt; have := hh.isLt; fin_cases a <;> simp [pOff] <;> omega

/-- One head's keys of one tile. -/
def kBlk (X : Blocks F) (t : Fin 33) (hh : Fin 2) : KB F := VecWindow.window X.k (kOff t hh) S1x1x1x1x256x128.size (kOff_inb t hh)
/-- One head's queries. -/
def qBlk (X : Blocks F) (hh : Fin 2) : QB F := VecWindow.window X.q (qOff hh) S1x1x1x1x128x256.size (qOff_inb hh)
/-- One head's values of one tile. -/
def vBlk (X : Blocks F) (t : Fin 33) (hh : Fin 2) : VB F := VecWindow.window X.v (vOff t hh) S1x1x1x64x256.size (vOff_inb t hh)

/-- The scores of one tile: keys times queries. -/
def score (kb : KB F) (qb : QB F) : ZB F :=
  shapeCast S1x256x256 (matmul dot_S256x128_S128x256_S256x256_1_0_0_1_n_n none
    (shapeCast S256x128 kb shapeCasts_S1x1x1x1x256x128_S256x128 : FVec F S256x128 .bf16)
    (shapeCast S128x256 qb shapeCasts_S1x1x1x1x128x256_S128x256 : FVec F S128x256 .bf16)
    (constant S256x256 .f32 0x00000000#32)) shapeCasts_S256x256_S1x256x256

def sq (z : ZB F) : Sq F := shapeCast S256x256 z shapeCasts_S1x256x256_S256x256

def zeroSq : Sq F := broadcast S256x256 (Scalar.ofBits .f32 0x00000000#32)
def zeroRow : Row F := broadcast S1x256 (Scalar.ofBits .f32 0x00000000#32)
def zeroAcc : Acc F := broadcast S64x256 (Scalar.ofBits .f32 0x00000000#32)

/-- The softplus in base two. -/
def soft (z : Sq F) : Sq F :=
  addf (maximumf z zeroSq)
    (mulf (log (addf (broadcast S256x256 (Scalar.ofBits .f32 0x3F800000#32)) (exp2 (subf zeroSq (absf z)))))
      (broadcast S256x256 (Named.named κ "log2e" 0x3FB8AA3B#32)))

/-- The triangle times the softplus: for each key the sum over the keys of the tile from it on. -/
def cum (u : FVec F S256x256 .bf16) (sp : Sq F) : Sq F :=
  matmul dot_S256x256_S256x256_S256x256_1_0_0_1_n_n none (shapeCast S256x256 u shapeCasts_S256x256_S256x256 : FVec F S256x256 .bf16)
    (truncf .bf16 sp bitsLt_bf16_f32) (constant S256x256 .f32 0x00000000#32)

def wt (z c : Sq F) : Sq F := exp2 (subf z c)
def pack (p : Sq F) : PB F := shapeCast S1x1x256x256 (truncf .bf16 p bitsLt_bf16_f32) shapeCasts_S256x256_S1x1x256x256
def row0 (c : Sq F) : Row F := extractStridedSlice S1x256 ![0, 0] c slices_S256x256_o0_0_S1x256

/-- The keys strictly before the query, in the diagonal tile. -/
def before : IVec S256x256 1 :=
  cmpi .slt (iota .tc S256x256 32 [0] iota_S256x256_d0_w32) (iota .tc S256x256 32 [1] iota_S256x256_d1_w32)

/-- Whether a tile counts, as a number. -/
def liveF (n k : BitVec 32) : F .f32 := Scalar.sitofp .f32 (Scalar.extui (Scalar.cmpi .sgt n k) : BitVec 32)

/-- The weighted values of one tile. -/
def pv (vb : VB F) (pb : PB F) : Acc F :=
  matmul dot_S64x256_S256x256_S64x256_1_0_0_1_n_n none (shapeCast S64x256 vb shapeCasts_S1x1x1x64x256_S64x256 : FVec F S64x256 .bf16)
    (shapeCast S256x256 pb shapeCasts_S1x1x256x256_S256x256 : FVec F S256x256 .bf16) (constant S64x256 .f32 0x00000000#32)

def accStep (n k : BitVec 32) (a : Acc F) (r : Row F) (o : Acc F) : Acc F :=
  addf a (mulf (broadcastTo S64x256 (mulf (broadcast S1x256 (liveF n k)) (exp2 (subf zeroRow r))) broadcasts_S1x256_S64x256) o)
def rowStep (n k : BitVec 32) (r c : Row F) : Row F := addf r (mulf (broadcast S1x256 (liveF n k)) c)

/-- The carried row after the four tiles of a group. -/
def foldRow (n : BitVec 32) (cs : Fin 4 → Row F) (r : Row F) : Row F :=
  rowStep n 3#32 (rowStep n 2#32 (rowStep n 1#32 (rowStep n 0#32 r (cs 0)) (cs 1)) (cs 2)) (cs 3)
/-- The accumulator after the four tiles of a group. -/
def foldAcc (n : BitVec 32) (vb : Fin 4 → VB F) (pb : Fin 4 → PB F) (cs : Fin 4 → Row F) (a : Acc F) (r : Row F) : Acc F :=
  accStep n 3#32
    (accStep n 2#32
      (accStep n 1#32
        (accStep n 0#32 a r (pv (vb 0) (pb 0)))
        (rowStep n 0#32 r (cs 0)) (pv (vb 1) (pb 1)))
      (rowStep n 1#32 (rowStep n 0#32 r (cs 0)) (cs 1)) (pv (vb 2) (pb 2)))
    (rowStep n 2#32 (rowStep n 1#32 (rowStep n 0#32 r (cs 0)) (cs 1)) (cs 2)) (pv (vb 3) (pb 3))

/-! The groups of one query tile. -/

section
variable (X : Blocks F) (q : Fin 33)

/-- The scores of the `k`-th tile of group `g`. -/
def zF (g : ℕ) (hh : Fin 2) (k : Fin 4) : ZB F := score (kBlk X (tile q g k) hh) (qBlk X hh)

/-- A later group's column sums of one tile, from its scores. -/
def cOf (u : FVec F S256x256 .bf16) (z : ZB F) : Sq F := cum u (soft (sq z))
/-- A later group's weights of one tile, from its scores. -/
def pOf (u : FVec F S256x256 .bf16) (z : ZB F) : PB F := pack (wt (sq z) (cOf u z))
/-- The diagonal tile's column sums: only the keys before the query. -/
def cDiag (u : FVec F S256x256 .bf16) (z : ZB F) : Sq F := cum u (select before (soft (sq z)) zeroSq)
/-- The diagonal tile's weights. -/
def pDiag (u : FVec F S256x256 .bf16) (z : ZB F) : PB F := pack (select before (wt (sq z) (cDiag u z)) zeroSq)

/-- The weights of the `k`-th tile of group `g`. -/
def pF (g : ℕ) (hh : Fin 2) (k : Fin 4) : PB F :=
  if g = 0 then
    if k.val = 0 then pDiag X.u (zF X q g hh k) else if k.val < live q.val 0 then pOf X.u (zF X q g hh k) else pack zeroSq
  else pOf X.u (zF X q g hh k)

/-- The row the `k`-th tile of group `g` adds to the carried row. -/
def csF (g : ℕ) (hh : Fin 2) (k : Fin 4) : Row F :=
  if g = 0 then
    if k.val = 0 then row0 (cDiag X.u (zF X q g hh k)) else if k.val < live q.val 0 then row0 (cOf X.u (zF X q g hh k)) else zeroRow
  else row0 (cOf X.u (zF X q g hh k))

/-- The accumulator and the carried row before group `g` is folded in. -/
def st (hh : Fin 2) : ℕ → Acc F × Row F
  | 0 => (zeroAcc, zeroRow)
  | g + 1 =>
    (foldAcc (BitVec.ofNat 32 (live q.val g)) (fun k => vBlk X (tile q g k) hh) (pF X q g hh) (csF X q g hh) (st hh g).1 (st hh g).2,
     foldRow (BitVec.ofNat 32 (live q.val g)) (csF X q g hh) (st hh g).2)

/-- What the grid point writes: the two heads side by side. -/
def outBlk : FVec F S1x256x128 .f32 :=
  shapeCast S1x256x128 (transpose S256x128 [1, 0]
    (concatenate S128x256 0 [⟨S64x256, (st X q 0 (q.val / 4 + 1)).1⟩, ⟨S64x256, (st X q 1 (q.val / 4 + 1)).1⟩] concatenates_S64x256_S64x256_S128x256_d0)
    transposes_S128x256_p1_0_S256x128) shapeCasts_S256x128_S1x256x128

end

/-! Reading the score and weight buffers slot by slot. -/

section
variable {κ' : Kind} {sp : Space}

/-- One block of the score buffer. -/
def zw (v : View sig κ' sp S8x256x256 .f32) (f : v.ty.Contents (Elt F)) (hh : Fin 2) (k : Fin 4) : ZB F :=
  VecWindow.window (v.read (Elt F) f) (zOff hh k) S1x256x256.size (zOff_inb hh k)
/-- One block of the weight buffer. -/
def pw (v : View sig κ' sp S2x8x256x256 .bf16) (f : v.ty.Contents (Elt F)) (g hh : Fin 2) (k : Fin 4) : PB F :=
  VecWindow.window (v.read (Elt F) f) (pOff g hh k) S1x1x256x256.size (pOff_inb g hh k)

/-- The score buffer holds the eight blocks `Z`. -/
def ReadsZ (v : View sig κ' sp S8x256x256 .f32) (f : v.ty.Contents (Elt F)) (Z : Fin 2 → Fin 4 → ZB F) : Prop :=
  ∀ hh k, zw v f hh k = Z hh k
/-- Half `g` of the weight buffer holds the eight blocks `P`. -/
def ReadsP (v : View sig κ' sp S2x8x256x256 .bf16) (f : v.ty.Contents (Elt F)) (g : Fin 2) (P : Fin 2 → Fin 4 → PB F) : Prop :=
  ∀ hh k, pw v f g hh k = P hh k

theorem readAt_z {v : View sig κ' sp S8x256x256 .f32} {f : v.ty.Contents (Elt F)} {Z : Fin 2 → Fin 4 → ZB F} (h : ReadsZ v f Z)
    (hh : Fin 2) (k : Fin 4) {off : Fin 3 → ℕ} (inb : ∀ a, off a + S1x256x256.size a ≤ S8x256x256.size a) (e : off = zOff hh k) :
    v.readAt (Elt F) (Rect.unit (s := S8x256x256) off S1x256x256.size inb).toLoadRect f = Z hh k :=
  (View.readAt_unit v f inb e (zOff_inb hh k)).trans (h hh k)

theorem readAt_p {v : View sig κ' sp S2x8x256x256 .bf16} {f : v.ty.Contents (Elt F)} {g : Fin 2} {P : Fin 2 → Fin 4 → PB F} (h : ReadsP v f g P)
    (hh : Fin 2) (k : Fin 4) {off : Fin 4 → ℕ} (inb : ∀ a, off a + S1x1x256x256.size a ≤ S2x8x256x256.size a) (e : off = pOff g hh k) :
    v.readAt (Elt F) (Rect.unit (s := S2x8x256x256) off S1x1x256x256.size inb).toLoadRect f = P hh k :=
  (View.readAt_unit v f inb e (pOff_inb g hh k)).trans (h hh k)

/-- The piece that stores one score block. -/
abbrev zPc (hh : Fin 2) (k : Fin 4) (w : ZB F) : View.Piece (Elt F) S8x256x256 .f32 := ⟨Rect.unit (s := S8x256x256) (zOff hh k) S1x256x256.size (zOff_inb hh k), w⟩
/-- The piece that stores one weight block. -/
abbrev pPc (g : Fin 2) (hh : Fin 2) (k : Fin 4) (w : PB F) : View.Piece (Elt F) S2x8x256x256 .bf16 :=
  ⟨Rect.unit (s := S2x8x256x256) (pOff g hh k) S1x1x256x256.size (pOff_inb g hh k), w⟩

theorem zwin_cons (v : View sig κ' sp S8x256x256 .f32) (f : v.ty.Contents (Elt F)) (hh hh' : Fin 2) (k k' : Fin 4) (w : ZB F) (L) :
    zw v (v.writes (Elt F) f (zPc hh' k' w :: L)) hh k
      = if hh = hh' ∧ k = k' then w else zw v (v.writes (Elt F) f L) hh k := by
  unfold zw
  rw [View.read_writes_cons_put v f (zOff_inb hh' k') w L rfl]
  split
  · next h => obtain ⟨rfl, rfl⟩ := h; exact VecWindow.window_put_same _ _ _ _ _
  · next h =>
    refine VecWindow.window_put_of_disjoint _ _ _ _ _ _ _ 0 ?_
    have h1 : ¬(hh.val = hh'.val ∧ k.val = k'.val) := fun e => h ⟨Fin.ext e.1, Fin.ext e.2⟩
    have := k.isLt; have := k'.isLt
    show 4 * hh.val + k.val + 1 ≤ 4 * hh'.val + k'.val ∨ 4 * hh'.val + k'.val + 1 ≤ 4 * hh.val + k.val
    omega

theorem pwin_cons (v : View sig κ' sp S2x8x256x256 .bf16) (f : v.ty.Contents (Elt F)) (g g' hh hh' : Fin 2) (k k' : Fin 4) (w : PB F) (L) :
    pw v (v.writes (Elt F) f (pPc g' hh' k' w :: L)) g hh k
      = if g = g' ∧ hh = hh' ∧ k = k' then w else pw v (v.writes (Elt F) f L) g hh k := by
  unfold pw
  rw [View.read_writes_cons_put v f (pOff_inb g' hh' k') w L rfl]
  split
  · next h => obtain ⟨rfl, rfl, rfl⟩ := h; exact VecWindow.window_put_same _ _ _ _ _
  · next h =>
    have h1 : ¬(g.val = g'.val ∧ hh.val = hh'.val ∧ k.val = k'.val) := fun e => h ⟨Fin.ext e.1, Fin.ext e.2.1, Fin.ext e.2.2⟩
    have := k.isLt; have := k'.isLt
    by_cases hg : g.val = g'.val
    · refine VecWindow.window_put_of_disjoint _ _ _ _ _ _ _ 1 ?_
      show 4 * hh.val + k.val + 1 ≤ 4 * hh'.val + k'.val ∨ 4 * hh'.val + k'.val + 1 ≤ 4 * hh.val + k.val
      omega
    · refine VecWindow.window_put_of_disjoint _ _ _ _ _ _ _ 0 ?_
      show g.val + 1 ≤ g'.val ∨ g'.val + 1 ≤ g.val
      omega

end

end Cert.Proof.Sb

end
-- ==== Proof.Carry.lean ====
module

public import proofs.«01_k».proof.Proof.Model
public import proofs.«01_k».proof.Proof.Gen.KernelIdeal.Loops
public import Idealize.ShloMosaic.Lib.Tactic

/-! What one trip of the loop needs to state: the carried values of the model, and the buffers it works on. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- The contents of a memref's buffer on core `c`. -/
abbrev Bf (F : FTy → Type) (c : Dev nD) {sp : Space} {S : Shape} {e : EltTy} (M : Memref sig .tc sp S e) : Type := Buf (Elt F) (M.view.loc (c : Thread nD τ))
/-- The memref held whole. -/
abbrev held (c : Dev nD) {sp : Space} {S : Shape} {e : EltTy} (M : Memref sig .tc sp S e) (f : Bf F c M) : sProp 𝕄 :=
  M.view.loc (c : Thread nD τ) ↦[M.view.set]{fullShare} f

/-- What the loop carries. -/
abbrev Carry (F : FTy → Type) : Type := Acc F × Row F × Acc F × Row F × BitVec 32 × BitVec 32 × Row F × Row F × Row F × Row F × Row F × Row F × Row F × Row F

/-- What the loop carries before group `g` is folded in. -/
def carryOf (X : Blocks F) (q : Fin 33) (g : ℕ) : Carry F :=
  ((st X q 0 g).1, (st X q 0 g).2, (st X q 1 g).1, (st X q 1 g).2, BitVec.ofNat 32 (newest q.val g), BitVec.ofNat 32 (live q.val g),
   csF X q g 0 0, csF X q g 0 1, csF X q g 0 2, csF X q g 0 3, csF X q g 1 0, csF X q g 1 1, csF X q g 1 2, csF X q g 1 3)

theorem readAt_v {κ' : Kind} {sp : Space} {v : View sig κ' sp S1x1x33x128x256 .bf16} {f : v.ty.Contents (Elt F)} {X : Blocks F} (h : v.read (Elt F) f = X.v)
    (t : Fin 33) (hh : Fin 2) {off : Fin 5 → ℕ} (inb : ∀ a, off a + S1x1x1x64x256.size a ≤ S1x1x33x128x256.size a) (e : off = vOff t hh) :
    v.readAt (Elt F) (Rect.unit (s := S1x1x33x128x256) off S1x1x1x64x256.size inb).toLoadRect f = vBlk X t hh :=
  (View.readAt_unit v f inb e (vOff_inb t hh)).trans (by rw [h]; rfl)

theorem readAt_k {κ' : Kind} {sp : Space} {v : View sig κ' sp S1x1x33x2x256x128 .bf16} {f : v.ty.Contents (Elt F)} {X : Blocks F} (h : v.read (Elt F) f = X.k)
    (t : Fin 33) (hh : Fin 2) {off : Fin 6 → ℕ} (inb : ∀ a, off a + S1x1x1x1x256x128.size a ≤ S1x1x33x2x256x128.size a) (e : off = kOff t hh) :
    v.readAt (Elt F) (Rect.unit (s := S1x1x33x2x256x128) off S1x1x1x1x256x128.size inb).toLoadRect f = kBlk X t hh :=
  (View.readAt_unit v f inb e (kOff_inb t hh)).trans (by rw [h]; rfl)

theorem readAt_q {κ' : Kind} {sp : Space} {v : View sig κ' sp S1x1x1x2x128x256 .bf16} {f : v.ty.Contents (Elt F)} {X : Blocks F} (h : v.read (Elt F) f = X.q)
    (hh : Fin 2) {off : Fin 6 → ℕ} (inb : ∀ a, off a + S1x1x1x1x128x256.size a ≤ S1x1x1x2x128x256.size a) (e : off = qOff hh) :
    v.readAt (Elt F) (Rect.unit (s := S1x1x1x2x128x256) off S1x1x1x1x128x256.size inb).toLoadRect f = qBlk X hh :=
  (View.readAt_unit v f inb e (qOff_inb hh)).trans (by rw [h]; rfl)

theorem readAt_u {κ' : Kind} {sp : Space} {v : View sig κ' sp S256x256 .bf16} {f : v.ty.Contents (Elt F)} {X : Blocks F} (h : v.read (Elt F) f = X.u)
    {off : Fin 2 → ℕ} (inb : ∀ a, off a + S256x256.size a ≤ S256x256.size a) :
    v.readAt (Elt F) (Rect.unit (s := S256x256) off S256x256.size inb).toLoadRect f = X.u :=
  (View.readAt_full v f inb).trans h

/-- What the first group hands to the loop. -/
abbrev FirstOut (F : FTy → Type) : Type := Σ' (arg2 : BitVec 32) (v0 : FVec F S64x256 .f32) (v1 : FVec F S1x256 .f32) (v2 : FVec F S64x256 .f32) (v3 : FVec F S1x256 .f32) (v5 : BitVec 32) (v22 : BitVec 32) (v27_0 : BitVec 32) (v27_1 : FVec F S1x256 .f32) (v27_2 : FVec F S1x256 .f32) (v27_3 : FVec F S1x256 .f32) (v27_4 : FVec F S1x256 .f32) (v27_5 : FVec F S1x256 .f32) (v27_6 : FVec F S1x256 .f32) (v27_7 : FVec F S1x256 .f32) (v27_8 : FVec F S1x256 .f32) (v28 : BitVec 32) (c2_i32 : BitVec 32) (v29 : BitVec 32) (v34 : BitVec 32), BitVec 32

/-- The first group's results: the carried values of the model before any group is folded in, the words of the tile and of
the first group's size, and words that only bound the loops. -/
def IsFirst (X : Blocks F) (q : Fin 33) (x : FirstOut F) : Prop :=
  ∃ v5 v22 v28 c2 v29 v34 c0 : BitVec 32, v5 = Scalar.addi (Scalar.remsi (BitVec.ofNat 32 q.val) 4#32) 1#32 ∧
    x = ⟨BitVec.ofNat 32 q.val, zeroAcc, zeroRow, zeroAcc, zeroRow, v5, v22, BitVec.ofNat 32 (live q.val 0),
      csF X q 0 0 0, csF X q 0 0 1, csF X q 0 0 2, csF X q 0 0 3, csF X q 0 1 0, csF X q 0 1 1, csF X q 0 1 2, csF X q 0 1 3, v28, c2, v29, v34, c0⟩

theorem isFirst_of {X : Blocks F} {q : Fin 33} {n : BitVec 32} {a0 a1 : Acc F} {r0 r1 s0 s1 s2 s3 s4 s5 s6 s7 : Row F} {v22 v28 c2 v29 v34 c0 : BitVec 32}
    (h1 : a0 = zeroAcc) (h2 : r0 = zeroRow) (h3 : a1 = zeroAcc) (h4 : r1 = zeroRow) (h6 : n = BitVec.ofNat 32 (live q.val 0))
    (h7 : s0 = csF X q 0 0 0) (h8 : s1 = csF X q 0 0 1) (h9 : s2 = csF X q 0 0 2) (h10 : s3 = csF X q 0 0 3)
    (h11 : s4 = csF X q 0 1 0) (h12 : s5 = csF X q 0 1 1) (h13 : s6 = csF X q 0 1 2) (h14 : s7 = csF X q 0 1 3) :
    IsFirst X q ⟨BitVec.ofNat 32 q.val, a0, r0, a1, r1, Scalar.addi (Scalar.remsi (BitVec.ofNat 32 q.val) 4#32) 1#32, v22, n, s0, s1, s2, s3, s4, s5, s6, s7, v28, c2, v29, v34, c0⟩ := by
  subst h1 h2 h3 h4 h6 h7 h8 h9 h10 h11 h12 h13 h14; exact ⟨_, _, _, _, _, _, _, rfl, rfl⟩

theorem live0 (q : ℕ) : live q 0 = q % 4 + 1 := if_pos rfl
theorem pF_diag {X : Blocks F} {q : Fin 33} {hh : Fin 2} {u : FVec F S256x256 .bf16} {z : ZB F} (hu : u = X.u) (hz : z = zF X q 0 hh 0) :
    pDiag u z = pF X q 0 hh 0 := by rw [hu, hz]; rfl
theorem csF_diag {X : Blocks F} {q : Fin 33} {hh : Fin 2} {u : FVec F S256x256 .bf16} {z : ZB F} (hu : u = X.u) (hz : z = zF X q 0 hh 0) :
    row0 (cDiag u z) = csF X q 0 hh 0 := by rw [hu, hz]; rfl
theorem pF_live {X : Blocks F} {q : Fin 33} {hh : Fin 2} {k : Fin 4} {u : FVec F S256x256 .bf16} {z : ZB F} (hk : k.val ≠ 0) (hn : k.val < live q.val 0) (hu : u = X.u)
    (hz : z = zF X q 0 hh k) : pOf u z = pF X q 0 hh k := by rw [hu, hz]; unfold pF; rw [if_pos rfl, if_neg hk, if_pos hn]
theorem csF_live {X : Blocks F} {q : Fin 33} {hh : Fin 2} {k : Fin 4} {u : FVec F S256x256 .bf16} {z : ZB F} (hk : k.val ≠ 0) (hn : k.val < live q.val 0) (hu : u = X.u)
    (hz : z = zF X q 0 hh k) : row0 (cOf u z) = csF X q 0 hh k := by rw [hu, hz]; unfold csF; rw [if_pos rfl, if_neg hk, if_pos hn]
theorem pF_dead {X : Blocks F} {q : Fin 33} {hh : Fin 2} {k : Fin 4} (hn : ¬ k.val < live q.val 0) : pack zeroSq = pF X q 0 hh k := by
  unfold pF; rw [if_pos rfl, if_neg (fun e => hn (by rw [e, live0]; omega)), if_neg hn]
theorem csF_dead {X : Blocks F} {q : Fin 33} {hh : Fin 2} {k : Fin 4} (hn : ¬ k.val < live q.val 0) : zeroRow = csF X q 0 hh k := by
  unfold csF; rw [if_pos rfl, if_neg (fun e => hn (by rw [e, live0]; omega)), if_neg hn]

theorem carry_eq {X : Blocks F} {q : Fin 33} {g : ℕ} {a0 a1 : Acc F} {r0 r1 s0 s1 s2 s3 s4 s5 s6 s7 : Row F} {j n : BitVec 32}
    (h1 : a0 = (st X q 0 g).1) (h2 : r0 = (st X q 0 g).2) (h3 : a1 = (st X q 1 g).1) (h4 : r1 = (st X q 1 g).2)
    (h5 : j = BitVec.ofNat 32 (newest q.val g)) (h6 : n = BitVec.ofNat 32 (live q.val g))
    (h7 : s0 = csF X q g 0 0) (h8 : s1 = csF X q g 0 1) (h9 : s2 = csF X q g 0 2) (h10 : s3 = csF X q g 0 3)
    (h11 : s4 = csF X q g 1 0) (h12 : s5 = csF X q g 1 1) (h13 : s6 = csF X q g 1 2) (h14 : s7 = csF X q g 1 3) :
    (a0, r0, a1, r1, j, n, s0, s1, s2, s3, s4, s5, s6, s7) = carryOf X q g := by
  subst h1 h2 h3 h4 h5 h6 h7 h8 h9 h10 h11 h12 h13 h14; rfl

theorem pF_succ (X : Blocks F) (q : Fin 33) (g : ℕ) (hh : Fin 2) (k : Fin 4) : pF X q (g + 1) hh k = pOf X.u (zF X q (g + 1) hh k) := if_neg (Nat.succ_ne_zero g)
theorem csF_succ (X : Blocks F) (q : Fin 33) (g : ℕ) (hh : Fin 2) (k : Fin 4) : csF X q (g + 1) hh k = row0 (cOf X.u (zF X q (g + 1) hh k)) := if_neg (Nat.succ_ne_zero g)

theorem four {α : Type} (f : Fin 4 → α) {a b c d : α} (ha : a = f 0) (hb : b = f 1) (hc : c = f 2) (hd : d = f 3) : ![a, b, c, d] = f := by
  subst ha hb hc hd; funext k; fin_cases k <;> rfl

theorem foldAcc_st {X : Blocks F} {q : Fin 33} {hh : Fin 2} {g : ℕ} {n : BitVec 32} {a : Acc F} {r s0 s1 s2 s3 : Row F} {vb : Fin 4 → VB F} {pb : Fin 4 → PB F}
    (hn : n = BitVec.ofNat 32 (live q.val g)) (ha : a = (st X q hh g).1) (hr : r = (st X q hh g).2)
    (h0 : s0 = csF X q g hh 0) (h1 : s1 = csF X q g hh 1) (h2 : s2 = csF X q g hh 2) (h3 : s3 = csF X q g hh 3)
    (hv : ∀ k, vb k = vBlk X (tile q g k) hh) (hp : ∀ k, pb k = pF X q g hh k) :
    foldAcc n vb pb ![s0, s1, s2, s3] a r = (st X q hh (g + 1)).1 := by
  rw [four (csF X q g hh) h0 h1 h2 h3, show vb = fun k => vBlk X (tile q g k) hh from funext hv, show pb = pF X q g hh from funext hp, hn, ha, hr]
  rfl

theorem foldRow_st {X : Blocks F} {q : Fin 33} {hh : Fin 2} {g : ℕ} {n : BitVec 32} {r s0 s1 s2 s3 : Row F}
    (hn : n = BitVec.ofNat 32 (live q.val g)) (hr : r = (st X q hh g).2)
    (h0 : s0 = csF X q g hh 0) (h1 : s1 = csF X q g hh 1) (h2 : s2 = csF X q g hh 2) (h3 : s3 = csF X q g hh 3) :
    foldRow n ![s0, s1, s2, s3] r = (st X q hh (g + 1)).2 := by
  rw [four (csF X q g hh) h0 h1 h2 h3, hn, hr]
  rfl

theorem pOf_eq {X : Blocks F} {q : Fin 33} {hh : Fin 2} {g : ℕ} {k : Fin 4} {u : FVec F S256x256 .bf16} {z : ZB F} (hu : u = X.u) (hz : z = zF X q (g + 1) hh k) :
    pOf u z = pF X q (g + 1) hh k := by rw [pF_succ, hu, hz]
theorem csOf_eq {X : Blocks F} {q : Fin 33} {hh : Fin 2} {g : ℕ} {k : Fin 4} {u : FVec F S256x256 .bf16} {z : ZB F} (hu : u = X.u) (hz : z = zF X q (g + 1) hh k) :
    row0 (cOf u z) = csF X q (g + 1) hh k := by rw [csF_succ, hu, hz]
theorem zF_eq {X : Blocks F} {q : Fin 33} {hh : Fin 2} {g : ℕ} {k : Fin 4} {kb : KB F} {qb : QB F} (hk : kb = kBlk X (tile q g k) hh) (hq : qb = qBlk X hh) :
    score kb qb = zF X q g hh k := by rw [hk, hq]; rfl

/-- A family over the two heads. -/
def two {α : Type} (f g : Fin 4 → α) : Fin 2 → Fin 4 → α := fun hh => match hh with
  | 0 => f
  | 1 => g

theorem two_eq {α : Type} {f g : Fin 4 → α} {P : Fin 2 → Fin 4 → α} (hf : ∀ k, f k = P 0 k) (hg : ∀ k, g k = P 1 k) : ∀ hh k, two f g hh k = P hh k := by
  intro hh k; match hh with
  | 0 => exact hf k
  | 1 => exact hg k

/-- The eight score blocks as the stores that put them in the buffer, the last store first. -/
abbrev zList (w : Fin 2 → Fin 4 → ZB F) : List (View.Piece (Elt F) S8x256x256 .f32) :=
  [zPc 1 3 (w 1 3), zPc 1 2 (w 1 2), zPc 1 1 (w 1 1), zPc 1 0 (w 1 0), zPc 0 3 (w 0 3), zPc 0 2 (w 0 2), zPc 0 1 (w 0 1), zPc 0 0 (w 0 0)]
/-- The eight weight blocks as the stores that put them in half `g` of the buffer, the last store first. -/
abbrev pList (g : Fin 2) (w : Fin 2 → Fin 4 → PB F) : List (View.Piece (Elt F) S2x8x256x256 .bf16) :=
  [pPc g 1 3 (w 1 3), pPc g 1 2 (w 1 2), pPc g 1 1 (w 1 1), pPc g 1 0 (w 1 0), pPc g 0 3 (w 0 3), pPc g 0 2 (w 0 2), pPc g 0 1 (w 0 1), pPc g 0 0 (w 0 0)]

section
variable {κ' : Kind} {sp : Space}

theorem readsZ_list (v : View sig κ' sp S8x256x256 .f32) (f : v.ty.Contents (Elt F)) (w Z : Fin 2 → Fin 4 → ZB F) (h : ∀ hh k, w hh k = Z hh k) :
    ReadsZ v (v.writes (Elt F) f (zList w)) Z := by
  intro hh k
  rw [← h]
  simp only [zList, zwin_cons]
  fin_cases hh <;> fin_cases k <;> rfl

theorem readsP_list (v : View sig κ' sp S2x8x256x256 .bf16) (f : v.ty.Contents (Elt F)) (g : Fin 2) (w P : Fin 2 → Fin 4 → PB F) (L) (h : ∀ hh k, w hh k = P hh k) :
    ReadsP v (v.writes (Elt F) f (pList g w ++ L)) g P := by
  intro hh k
  rw [← h]
  simp only [pList, List.cons_append, pwin_cons, true_and]
  fin_cases hh <;> fin_cases k <;> rfl

/-! The first group's scores: as many slots of each head as it has live tiles, read back. -/

theorem zw_list1 (v : View sig κ' sp S8x256x256 .f32) (f : v.ty.Contents (Elt F)) (w : Fin 2 → Fin 4 → ZB F) (hh : Fin 2) (k : Fin 4) (hk : k.val < 1) :
    v.readAt (Elt F) (Rect.unit (s := S8x256x256) (zOff hh k) S1x256x256.size (zOff_inb hh k)).toLoadRect
      (v.writes (Elt F) f [zPc 1 0 (w 1 0), zPc 0 0 (w 0 0)]) = w hh k := by
  refine (View.readAt_unit v _ (zOff_inb hh k) rfl (zOff_inb hh k)).trans ?_
  show zw v _ hh k = _
  simp only [zwin_cons]
  revert hk
  fin_cases hh <;> fin_cases k <;> intro hk <;> first | rfl | exact absurd hk (by decide)

theorem zw_list2 (v : View sig κ' sp S8x256x256 .f32) (f : v.ty.Contents (Elt F)) (w : Fin 2 → Fin 4 → ZB F) (hh : Fin 2) (k : Fin 4) (hk : k.val < 2) :
    v.readAt (Elt F) (Rect.unit (s := S8x256x256) (zOff hh k) S1x256x256.size (zOff_inb hh k)).toLoadRect
      (v.writes (Elt F) f [zPc 1 1 (w 1 1), zPc 1 0 (w 1 0), zPc 0 1 (w 0 1), zPc 0 0 (w 0 0)]) = w hh k := by
  refine (View.readAt_unit v _ (zOff_inb hh k) rfl (zOff_inb hh k)).trans ?_
  show zw v _ hh k = _
  simp only [zwin_cons]
  revert hk
  fin_cases hh <;> fin_cases k <;> intro hk <;> first | rfl | exact absurd hk (by decide)

theorem zw_list3 (v : View sig κ' sp S8x256x256 .f32) (f : v.ty.Contents (Elt F)) (w : Fin 2 → Fin 4 → ZB F) (hh : Fin 2) (k : Fin 4) (hk : k.val < 3) :
    v.readAt (Elt F) (Rect.unit (s := S8x256x256) (zOff hh k) S1x256x256.size (zOff_inb hh k)).toLoadRect
      (v.writes (Elt F) f [zPc 1 2 (w 1 2), zPc 1 1 (w 1 1), zPc 1 0 (w 1 0), zPc 0 2 (w 0 2), zPc 0 1 (w 0 1), zPc 0 0 (w 0 0)]) = w hh k := by
  refine (View.readAt_unit v _ (zOff_inb hh k) rfl (zOff_inb hh k)).trans ?_
  show zw v _ hh k = _
  simp only [zwin_cons]
  revert hk
  fin_cases hh <;> fin_cases k <;> intro hk <;> first | rfl | exact absurd hk (by decide)

theorem zw_list4 (v : View sig κ' sp S8x256x256 .f32) (f : v.ty.Contents (Elt F)) (w : Fin 2 → Fin 4 → ZB F) (hh : Fin 2) (k : Fin 4) (hk : k.val < 4) :
    v.readAt (Elt F) (Rect.unit (s := S8x256x256) (zOff hh k) S1x256x256.size (zOff_inb hh k)).toLoadRect
      (v.writes (Elt F) f [zPc 1 3 (w 1 3), zPc 1 2 (w 1 2), zPc 1 1 (w 1 1), zPc 1 0 (w 1 0), zPc 0 3 (w 0 3), zPc 0 2 (w 0 2), zPc 0 1 (w 0 1), zPc 0 0 (w 0 0)]) = w hh k := by
  refine (View.readAt_unit v _ (zOff_inb hh k) rfl (zOff_inb hh k)).trans ?_
  show zw v _ hh k = _
  simp only [zwin_cons]
  revert hk
  fin_cases hh <;> fin_cases k <;> intro hk <;> first | rfl | exact absurd hk (by decide)

/-- Eight weight blocks stored in the order of the slots. -/
theorem readsP_eight (v : View sig κ' sp S2x8x256x256 .bf16) (f : v.ty.Contents (Elt F)) (g : Fin 2) (P : Fin 2 → Fin 4 → PB F) (L)
    {w0 w1 w2 w3 w4 w5 w6 w7 : PB F} (h0 : w0 = P 0 0) (h1 : w1 = P 0 1) (h2 : w2 = P 0 2) (h3 : w3 = P 0 3) (h4 : w4 = P 1 0) (h5 : w5 = P 1 1) (h6 : w6 = P 1 2) (h7 : w7 = P 1 3) :
    ReadsP v (v.writes (Elt F) f (pPc g 1 3 w7 :: pPc g 1 2 w6 :: pPc g 1 1 w5 :: pPc g 1 0 w4 :: pPc g 0 3 w3 :: pPc g 0 2 w2 :: pPc g 0 1 w1 :: pPc g 0 0 w0 :: L)) g P := by
  subst h0 h1 h2 h3 h4 h5 h6 h7
  intro hh k
  simp only [pwin_cons, true_and]
  fin_cases hh <;> fin_cases k <;> rfl

/-- Eight score blocks stored in the order of the slots. -/
theorem readsZ_eight (v : View sig κ' sp S8x256x256 .f32) (f : v.ty.Contents (Elt F)) (P : Fin 2 → Fin 4 → ZB F) (L)
    {w0 w1 w2 w3 w4 w5 w6 w7 : ZB F} (h0 : w0 = P 0 0) (h1 : w1 = P 0 1) (h2 : w2 = P 0 2) (h3 : w3 = P 0 3) (h4 : w4 = P 1 0) (h5 : w5 = P 1 1) (h6 : w6 = P 1 2) (h7 : w7 = P 1 3) :
    ReadsZ v (v.writes (Elt F) f (zPc 1 3 w7 :: zPc 1 2 w6 :: zPc 1 1 w5 :: zPc 1 0 w4 :: zPc 0 3 w3 :: zPc 0 2 w2 :: zPc 0 1 w1 :: zPc 0 0 w0 :: L)) P := by
  subst h0 h1 h2 h3 h4 h5 h6 h7
  intro hh k
  simp only [zwin_cons]
  fin_cases hh <;> fin_cases k <;> rfl

end

end Cert.Proof.Sb

end
-- ==== Proof.First1.lean ====
module

public import proofs.«01_k».proof.Proof.Carry
public import proofs.«01_k».proof.Proof.Gen.KernelIdeal.Loops
public import Idealize.ShloMosaic.Lib.Tactic

/-! The first group, when it has 1 live tiles. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- The first group when it has 1 live tile. -/
theorem first1 (X : Blocks F) (hq : (i 2).val % 4 = 0) (hc : ¬ k0_cond1 i = 1#1)
   (f3 : Bf F c arg3) (f4 : Bf F c arg4) (f6 : Bf F c arg6) (f8 : Bf F c arg8) (f9 : Bf F c arg9) (f10 : Bf F c arg10)
   (h3 : arg3.view.read (Elt F) f3 = X.k) (h4 : arg4.view.read (Elt F) f4 = X.q) (h6 : arg6.view.read (Elt F) f6 = X.u)
   (Q : FirstOut F → sProp 𝕄) :
   iprop(held c arg3 f3 ∗ held c arg4 f4 ∗ held c arg6 f6 ∗ held c arg8 f8 ∗ held c arg9 f9 ∗ held c arg10 f10 ∗
      (∀ x f8' f9' f10', iprop(held c arg3 f3 ∗ held c arg4 f4 ∗ held c arg6 f6 ∗ held c arg8 f8' ∗ held c arg9 f9' ∗ held c arg10 f10' ∗
        ⌜IsFirst X (i 2) x ∧ ReadsZ arg9.view f9' (zF X (i 2) 1) ∧ ReadsP arg10.view f10' 0 (pF X (i 2) 0)⌝) -∗ Q x))
     ⊢ wp frame (wpE (defs₀ (F := F)) 𝒱₀ (c : Thread nD τ) none) Set.univ
       (k0_part105 (F := F) i arg3 harg3 arg4 harg4 arg5 harg5 arg6 harg6 arg7 harg7 arg8 harg8 arg9 harg9 arg10 harg10) Q := by
  iintro ⟨H3, H4, H6, H8, H9, H10, Hk⟩
  sl_unfold [k0_part105]
  sl_exec_parts!
  sl_step
  iapply Hk
  isplitl [H3]; · iexact H3
  isplitl [H4]; · iexact H4
  isplitl [H6]; · iexact H6
  isplitl [H8]; · iexact H8
  isplitl [H9]; · iexact H9
  isplitl [H10]; · iexact H10
  ipureintro
  have hu := readAt_u h6 inb_S256x256_S256x256_0_0
  have hqr := fun hh => readAt_q h4 hh (qOff_inb hh) rfl
  -- the scores of the live tiles, read back from the first score buffer
  have hzr := zw_list1 arg8.view arg8.view.junk (two
      (fun r => match r with | 0 => score (arg3.view.readAt (Elt F) (Rect.unit (s := S1x1x33x2x256x128) (k0_off13 i) S1x1x1x1x256x128.size (k0_off13_inb i hc)).toLoadRect f3) (arg4.view.readAt (Elt F) (Rect.unit (s := S1x1x1x2x128x256) (qOff 0) S1x1x1x1x128x256.size (qOff_inb 0)).toLoadRect f4) | 1 => score (arg3.view.readAt (Elt F) (Rect.unit (s := S1x1x33x2x256x128) (k0_off13 i) S1x1x1x1x256x128.size (k0_off13_inb i hc)).toLoadRect f3) (arg4.view.readAt (Elt F) (Rect.unit (s := S1x1x1x2x128x256) (qOff 0) S1x1x1x1x128x256.size (qOff_inb 0)).toLoadRect f4) | 2 => score (arg3.view.readAt (Elt F) (Rect.unit (s := S1x1x33x2x256x128) (k0_off13 i) S1x1x1x1x256x128.size (k0_off13_inb i hc)).toLoadRect f3) (arg4.view.readAt (Elt F) (Rect.unit (s := S1x1x1x2x128x256) (qOff 0) S1x1x1x1x128x256.size (qOff_inb 0)).toLoadRect f4) | 3 => score (arg3.view.readAt (Elt F) (Rect.unit (s := S1x1x33x2x256x128) (k0_off13 i) S1x1x1x1x256x128.size (k0_off13_inb i hc)).toLoadRect f3) (arg4.view.readAt (Elt F) (Rect.unit (s := S1x1x1x2x128x256) (qOff 0) S1x1x1x1x128x256.size (qOff_inb 0)).toLoadRect f4))
      (fun r => match r with | 0 => score (arg3.view.readAt (Elt F) (Rect.unit (s := S1x1x33x2x256x128) (k0_off14 i) S1x1x1x1x256x128.size (k0_off14_inb i hc)).toLoadRect f3) (arg4.view.readAt (Elt F) (Rect.unit (s := S1x1x1x2x128x256) (qOff 1) S1x1x1x1x128x256.size (qOff_inb 1)).toLoadRect f4) | 1 => score (arg3.view.readAt (Elt F) (Rect.unit (s := S1x1x33x2x256x128) (k0_off14 i) S1x1x1x1x256x128.size (k0_off14_inb i hc)).toLoadRect f3) (arg4.view.readAt (Elt F) (Rect.unit (s := S1x1x1x2x128x256) (qOff 1) S1x1x1x1x128x256.size (qOff_inb 1)).toLoadRect f4) | 2 => score (arg3.view.readAt (Elt F) (Rect.unit (s := S1x1x33x2x256x128) (k0_off14 i) S1x1x1x1x256x128.size (k0_off14_inb i hc)).toLoadRect f3) (arg4.view.readAt (Elt F) (Rect.unit (s := S1x1x1x2x128x256) (qOff 1) S1x1x1x1x128x256.size (qOff_inb 1)).toLoadRect f4) | 3 => score (arg3.view.readAt (Elt F) (Rect.unit (s := S1x1x33x2x256x128) (k0_off14 i) S1x1x1x1x256x128.size (k0_off14_inb i hc)).toLoadRect f3) (arg4.view.readAt (Elt F) (Rect.unit (s := S1x1x1x2x128x256) (qOff 1) S1x1x1x1x128x256.size (qOff_inb 1)).toLoadRect f4)))
  have z00 := (hzr 0 0 (by decide)).trans (zF_eq (readAt_k h3 (tile (i 2) 0 0) 0 (k0_off13_inb i hc) (off13_eq i hq)) (hqr 0))
  have z10 := (hzr 1 0 (by decide)).trans (zF_eq (readAt_k h3 (tile (i 2) 0 0) 1 (k0_off14_inb i hc) (off14_eq i hq)) (hqr 1))
  refine ⟨?_, ?_, ?_⟩
  · refine isFirst_of ?_ ?_ ?_ ?_ ?_ ?_ ?_ ?_ ?_ ?_ ?_ ?_ ?_
    · rfl
    · rfl
    · rfl
    · rfl
    · rw [live0, hq]
    · refine Eq.trans ?_ (csF_diag hu z00); rfl
    · refine Eq.trans ?_ (csF_dead (k := 1) (by rw [live0, hq]; decide)); rfl
    · refine Eq.trans ?_ (csF_dead (k := 2) (by rw [live0, hq]; decide)); rfl
    · refine Eq.trans ?_ (csF_dead (k := 3) (by rw [live0, hq]; decide)); rfl
    · refine Eq.trans ?_ (csF_diag hu z10); rfl
    · refine Eq.trans ?_ (csF_dead (k := 1) (by rw [live0, hq]; decide)); rfl
    · refine Eq.trans ?_ (csF_dead (k := 2) (by rw [live0, hq]; decide)); rfl
    · refine Eq.trans ?_ (csF_dead (k := 3) (by rw [live0, hq]; decide)); rfl
  · refine readsZ_eight arg9.view arg9.view.junk (zF X (i 2) 1) [] ?_ ?_ ?_ ?_ ?_ ?_ ?_ ?_
    · refine Eq.trans ?_ (zF_eq (readAt_k h3 (tile (i 2) 1 0) 0 (k0_off15_inb i hc 0) (off15_eq i hq 0)) (hqr 0)); rfl
    · refine Eq.trans ?_ (zF_eq (readAt_k h3 (tile (i 2) 1 1) 0 (k0_off15_inb i hc 1) (off15_eq i hq 1)) (hqr 0)); rfl
    · refine Eq.trans ?_ (zF_eq (readAt_k h3 (tile (i 2) 1 2) 0 (k0_off15_inb i hc 2) (off15_eq i hq 2)) (hqr 0)); rfl
    · refine Eq.trans ?_ (zF_eq (readAt_k h3 (tile (i 2) 1 3) 0 (k0_off15_inb i hc 3) (off15_eq i hq 3)) (hqr 0)); rfl
    · refine Eq.trans ?_ (zF_eq (readAt_k h3 (tile (i 2) 1 0) 1 (k0_off16_inb i hc 0) (off16_eq i hq 0)) (hqr 1)); rfl
    · refine Eq.trans ?_ (zF_eq (readAt_k h3 (tile (i 2) 1 1) 1 (k0_off16_inb i hc 1) (off16_eq i hq 1)) (hqr 1)); rfl
    · refine Eq.trans ?_ (zF_eq (readAt_k h3 (tile (i 2) 1 2) 1 (k0_off16_inb i hc 2) (off16_eq i hq 2)) (hqr 1)); rfl
    · refine Eq.trans ?_ (zF_eq (readAt_k h3 (tile (i 2) 1 3) 1 (k0_off16_inb i hc 3) (off16_eq i hq 3)) (hqr 1)); rfl
  · refine readsP_eight arg10.view f10 0 (pF X (i 2) 0) [] ?_ ?_ ?_ ?_ ?_ ?_ ?_ ?_
    · refine Eq.trans ?_ (pF_diag hu z00); rfl
    · refine Eq.trans ?_ (pF_dead (k := 1) (by rw [live0, hq]; decide)); rfl
    · refine Eq.trans ?_ (pF_dead (k := 2) (by rw [live0, hq]; decide)); rfl
    · refine Eq.trans ?_ (pF_dead (k := 3) (by rw [live0, hq]; decide)); rfl
    · refine Eq.trans ?_ (pF_diag hu z10); rfl
    · refine Eq.trans ?_ (pF_dead (k := 1) (by rw [live0, hq]; decide)); rfl
    · refine Eq.trans ?_ (pF_dead (k := 2) (by rw [live0, hq]; decide)); rfl
    · refine Eq.trans ?_ (pF_dead (k := 3) (by rw [live0, hq]; decide)); rfl
end

end Cert.Proof.Sb

end
-- ==== Proof.First2.lean ====
module

public import proofs.«01_k».proof.Proof.Carry
public import proofs.«01_k».proof.Proof.Gen.KernelIdeal.Loops
public import Idealize.ShloMosaic.Lib.Tactic

/-! The first group, when it has 2 live tiles. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- The first group when it has 2 live tiles. -/
theorem first2 (X : Blocks F) (hq : (i 2).val % 4 = 1) (hc : k0_cond1 i = 1#1) (hc2 : ¬ k0_cond2 i = 1#1)
   (f3 : Bf F c arg3) (f4 : Bf F c arg4) (f6 : Bf F c arg6) (f8 : Bf F c arg8) (f9 : Bf F c arg9) (f10 : Bf F c arg10)
   (h3 : arg3.view.read (Elt F) f3 = X.k) (h4 : arg4.view.read (Elt F) f4 = X.q) (h6 : arg6.view.read (Elt F) f6 = X.u)
   (Q : FirstOut F → sProp 𝕄) :
   iprop(held c arg3 f3 ∗ held c arg4 f4 ∗ held c arg6 f6 ∗ held c arg8 f8 ∗ held c arg9 f9 ∗ held c arg10 f10 ∗
      (∀ x f8' f9' f10', iprop(held c arg3 f3 ∗ held c arg4 f4 ∗ held c arg6 f6 ∗ held c arg8 f8' ∗ held c arg9 f9' ∗ held c arg10 f10' ∗
        ⌜IsFirst X (i 2) x ∧ ReadsZ arg9.view f9' (zF X (i 2) 1) ∧ ReadsP arg10.view f10' 0 (pF X (i 2) 0)⌝) -∗ Q x))
     ⊢ wp frame (wpE (defs₀ (F := F)) 𝒱₀ (c : Thread nD τ) none) Set.univ
       (k0_part105 (F := F) i arg3 harg3 arg4 harg4 arg5 harg5 arg6 harg6 arg7 harg7 arg8 harg8 arg9 harg9 arg10 harg10) Q := by
  iintro ⟨H3, H4, H6, H8, H9, H10, Hk⟩
  sl_unfold [k0_part105]
  sl_exec_parts!
  sl_step
  iapply Hk
  isplitl [H3]; · iexact H3
  isplitl [H4]; · iexact H4
  isplitl [H6]; · iexact H6
  isplitl [H8]; · iexact H8
  isplitl [H9]; · iexact H9
  isplitl [H10]; · iexact H10
  ipureintro
  have hu := readAt_u h6 inb_S256x256_S256x256_0_0
  have hqr := fun hh => readAt_q h4 hh (qOff_inb hh) rfl
  -- the scores of the live tiles, read back from the first score buffer
  have hzr := zw_list2 arg8.view arg8.view.junk (two
      (fun r => match r with | 0 => score (arg3.view.readAt (Elt F) (Rect.unit (s := S1x1x33x2x256x128) (k0_off9 i (BitVec.ofNat 32 0)) S1x1x1x1x256x128.size (k0_off9_inb i hc hc2 0)).toLoadRect f3) (arg4.view.readAt (Elt F) (Rect.unit (s := S1x1x1x2x128x256) (qOff 0) S1x1x1x1x128x256.size (qOff_inb 0)).toLoadRect f4) | 1 => score (arg3.view.readAt (Elt F) (Rect.unit (s := S1x1x33x2x256x128) (k0_off9 i (BitVec.ofNat 32 1)) S1x1x1x1x256x128.size (k0_off9_inb i hc hc2 1)).toLoadRect f3) (arg4.view.readAt (Elt F) (Rect.unit (s := S1x1x1x2x128x256) (qOff 0) S1x1x1x1x128x256.size (qOff_inb 0)).toLoadRect f4) | 2 => score (arg3.view.readAt (Elt F) (Rect.unit (s := S1x1x33x2x256x128) (k0_off9 i (BitVec.ofNat 32 1)) S1x1x1x1x256x128.size (k0_off9_inb i hc hc2 1)).toLoadRect f3) (arg4.view.readAt (Elt F) (Rect.unit (s := S1x1x1x2x128x256) (qOff 0) S1x1x1x1x128x256.size (qOff_inb 0)).toLoadRect f4) | 3 => score (arg3.view.readAt (Elt F) (Rect.unit (s := S1x1x33x2x256x128) (k0_off9 i (BitVec.ofNat 32 1)) S1x1x1x1x256x128.size (k0_off9_inb i hc hc2 1)).toLoadRect f3) (arg4.view.readAt (Elt F) (Rect.unit (s := S1x1x1x2x128x256) (qOff 0) S1x1x1x1x128x256.size (qOff_inb 0)).toLoadRect f4))
      (fun r => match r with | 0 => score (arg3.view.readAt (Elt F) (Rect.unit (s := S1x1x33x2x256x128) (k0_off10 i (BitVec.ofNat 32 0)) S1x1x1x1x256x128.size (k0_off10_inb i hc hc2 0)).toLoadRect f3) (arg4.view.readAt (Elt F) (Rect.unit (s := S1x1x1x2x128x256) (qOff 1) S1x1x1x1x128x256.size (qOff_inb 1)).toLoadRect f4) | 1 => score (arg3.view.readAt (Elt F) (Rect.unit (s := S1x1x33x2x256x128) (k0_off10 i (BitVec.ofNat 32 1)) S1x1x1x1x256x128.size (k0_off10_inb i hc hc2 1)).toLoadRect f3) (arg4.view.readAt (Elt F) (Rect.unit (s := S1x1x1x2x128x256) (qOff 1) S1x1x1x1x128x256.size (qOff_inb 1)).toLoadRect f4) | 2 => score (arg3.view.readAt (Elt F) (Rect.unit (s := S1x1x33x2x256x128) (k0_off10 i (BitVec.ofNat 32 1)) S1x1x1x1x256x128.size (k0_off10_inb i hc hc2 1)).toLoadRect f3) (arg4.view.readAt (Elt F) (Rect.unit (s := S1x1x1x2x128x256) (qOff 1) S1x1x1x1x128x256.size (qOff_inb 1)).toLoadRect f4) | 3 => score (arg3.view.readAt (Elt F) (Rect.unit (s := S1x1x33x2x256x128) (k0_off10 i (BitVec.ofNat 32 1)) S1x1x1x1x256x128.size (k0_off10_inb i hc hc2 1)).toLoadRect f3) (arg4.view.readAt (Elt F) (Rect.unit (s := S1x1x1x2x128x256) (qOff 1) S1x1x1x1x128x256.size (qOff_inb 1)).toLoadRect f4)))
  have z00 := (hzr 0 0 (by decide)).trans (zF_eq (readAt_k h3 (tile (i 2) 0 0) 0 (k0_off9_inb i hc hc2 0) (off9_eq i hq 0)) (hqr 0))
  have z01 := (hzr 0 1 (by decide)).trans (zF_eq (readAt_k h3 (tile (i 2) 0 1) 0 (k0_off9_inb i hc hc2 1) (off9_eq i hq 1)) (hqr 0))
  have z10 := (hzr 1 0 (by decide)).trans (zF_eq (readAt_k h3 (tile (i 2) 0 0) 1 (k0_off10_inb i hc hc2 0) (off10_eq i hq 0)) (hqr 1))
  have z11 := (hzr 1 1 (by decide)).trans (zF_eq (readAt_k h3 (tile (i 2) 0 1) 1 (k0_off10_inb i hc hc2 1) (off10_eq i hq 1)) (hqr 1))
  refine ⟨?_, ?_, ?_⟩
  · refine isFirst_of ?_ ?_ ?_ ?_ ?_ ?_ ?_ ?_ ?_ ?_ ?_ ?_ ?_
    · rfl
    · rfl
    · rfl
    · rfl
    · rw [live0, hq]
    · refine Eq.trans ?_ (csF_diag hu z00); rfl
    · refine Eq.trans ?_ (csF_live (k := 1) (by decide) (by rw [live0, hq]; decide) hu z01); rfl
    · refine Eq.trans ?_ (csF_dead (k := 2) (by rw [live0, hq]; decide)); rfl
    · refine Eq.trans ?_ (csF_dead (k := 3) (by rw [live0, hq]; decide)); rfl
    · refine Eq.trans ?_ (csF_diag hu z10); rfl
    · refine Eq.trans ?_ (csF_live (k := 1) (by decide) (by rw [live0, hq]; decide) hu z11); rfl
    · refine Eq.trans ?_ (csF_dead (k := 2) (by rw [live0, hq]; decide)); rfl
    · refine Eq.trans ?_ (csF_dead (k := 3) (by rw [live0, hq]; decide)); rfl
  · refine readsZ_eight arg9.view arg9.view.junk (zF X (i 2) 1) [] ?_ ?_ ?_ ?_ ?_ ?_ ?_ ?_
    · refine Eq.trans ?_ (zF_eq (readAt_k h3 (tile (i 2) 1 0) 0 (k0_off11_inb i hc hc2 0) (off11_eq i hq 0)) (hqr 0)); rfl
    · refine Eq.trans ?_ (zF_eq (readAt_k h3 (tile (i 2) 1 1) 0 (k0_off11_inb i hc hc2 1) (off11_eq i hq 1)) (hqr 0)); rfl
    · refine Eq.trans ?_ (zF_eq (readAt_k h3 (tile (i 2) 1 2) 0 (k0_off11_inb i hc hc2 2) (off11_eq i hq 2)) (hqr 0)); rfl
    · refine Eq.trans ?_ (zF_eq (readAt_k h3 (tile (i 2) 1 3) 0 (k0_off11_inb i hc hc2 3) (off11_eq i hq 3)) (hqr 0)); rfl
    · refine Eq.trans ?_ (zF_eq (readAt_k h3 (tile (i 2) 1 0) 1 (k0_off12_inb i hc hc2 0) (off12_eq i hq 0)) (hqr 1)); rfl
    · refine Eq.trans ?_ (zF_eq (readAt_k h3 (tile (i 2) 1 1) 1 (k0_off12_inb i hc hc2 1) (off12_eq i hq 1)) (hqr 1)); rfl
    · refine Eq.trans ?_ (zF_eq (readAt_k h3 (tile (i 2) 1 2) 1 (k0_off12_inb i hc hc2 2) (off12_eq i hq 2)) (hqr 1)); rfl
    · refine Eq.trans ?_ (zF_eq (readAt_k h3 (tile (i 2) 1 3) 1 (k0_off12_inb i hc hc2 3) (off12_eq i hq 3)) (hqr 1)); rfl
  · refine readsP_eight arg10.view f10 0 (pF X (i 2) 0) [] ?_ ?_ ?_ ?_ ?_ ?_ ?_ ?_
    · refine Eq.trans ?_ (pF_diag hu z00); rfl
    · refine Eq.trans ?_ (pF_live (k := 1) (by decide) (by rw [live0, hq]; decide) hu z01); rfl
    · refine Eq.trans ?_ (pF_dead (k := 2) (by rw [live0, hq]; decide)); rfl
    · refine Eq.trans ?_ (pF_dead (k := 3) (by rw [live0, hq]; decide)); rfl
    · refine Eq.trans ?_ (pF_diag hu z10); rfl
    · refine Eq.trans ?_ (pF_live (k := 1) (by decide) (by rw [live0, hq]; decide) hu z11); rfl
    · refine Eq.trans ?_ (pF_dead (k := 2) (by rw [live0, hq]; decide)); rfl
    · refine Eq.trans ?_ (pF_dead (k := 3) (by rw [live0, hq]; decide)); rfl
end

end Cert.Proof.Sb

end
-- ==== Proof.First3.lean ====
module

public import proofs.«01_k».proof.Proof.Carry
public import proofs.«01_k».proof.Proof.Gen.KernelIdeal.Loops
public import Idealize.ShloMosaic.Lib.Tactic

/-! The first group, when it has 3 live tiles. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- The first group when it has 3 live tiles. -/
theorem first3 (X : Blocks F) (hq : (i 2).val % 4 = 2) (hc : k0_cond1 i = 1#1) (hc2 : k0_cond2 i = 1#1) (hc3 : ¬ k0_cond3 i = 1#1)
   (f3 : Bf F c arg3) (f4 : Bf F c arg4) (f6 : Bf F c arg6) (f8 : Bf F c arg8) (f9 : Bf F c arg9) (f10 : Bf F c arg10)
   (h3 : arg3.view.read (Elt F) f3 = X.k) (h4 : arg4.view.read (Elt F) f4 = X.q) (h6 : arg6.view.read (Elt F) f6 = X.u)
   (Q : FirstOut F → sProp 𝕄) :
   iprop(held c arg3 f3 ∗ held c arg4 f4 ∗ held c arg6 f6 ∗ held c arg8 f8 ∗ held c arg9 f9 ∗ held c arg10 f10 ∗
      (∀ x f8' f9' f10', iprop(held c arg3 f3 ∗ held c arg4 f4 ∗ held c arg6 f6 ∗ held c arg8 f8' ∗ held c arg9 f9' ∗ held c arg10 f10' ∗
        ⌜IsFirst X (i 2) x ∧ ReadsZ arg9.view f9' (zF X (i 2) 1) ∧ ReadsP arg10.view f10' 0 (pF X (i 2) 0)⌝) -∗ Q x))
     ⊢ wp frame (wpE (defs₀ (F := F)) 𝒱₀ (c : Thread nD τ) none) Set.univ
       (k0_part105 (F := F) i arg3 harg3 arg4 harg4 arg5 harg5 arg6 harg6 arg7 harg7 arg8 harg8 arg9 harg9 arg10 harg10) Q := by
  iintro ⟨H3, H4, H6, H8, H9, H10, Hk⟩
  sl_unfold [k0_part105]
  sl_exec_parts!
  sl_step
  iapply Hk
  isplitl [H3]; · iexact H3
  isplitl [H4]; · iexact H4
  isplitl [H6]; · iexact H6
  isplitl [H8]; · iexact H8
  isplitl [H9]; · iexact H9
  isplitl [H10]; · iexact H10
  ipureintro
  have hu := readAt_u h6 inb_S256x256_S256x256_0_0
  have hqr := fun hh => readAt_q h4 hh (qOff_inb hh) rfl
  -- the scores of the live tiles, read back from the first score buffer
  have hzr := zw_list3 arg8.view arg8.view.junk (two
      (fun r => match r with | 0 => score (arg3.view.readAt (Elt F) (Rect.unit (s := S1x1x33x2x256x128) (k0_off5 i (BitVec.ofNat 32 0)) S1x1x1x1x256x128.size (k0_off5_inb i hc hc2 hc3 0)).toLoadRect f3) (arg4.view.readAt (Elt F) (Rect.unit (s := S1x1x1x2x128x256) (qOff 0) S1x1x1x1x128x256.size (qOff_inb 0)).toLoadRect f4) | 1 => score (arg3.view.readAt (Elt F) (Rect.unit (s := S1x1x33x2x256x128) (k0_off5 i (BitVec.ofNat 32 1)) S1x1x1x1x256x128.size (k0_off5_inb i hc hc2 hc3 1)).toLoadRect f3) (arg4.view.readAt (Elt F) (Rect.unit (s := S1x1x1x2x128x256) (qOff 0) S1x1x1x1x128x256.size (qOff_inb 0)).toLoadRect f4) | 2 => score (arg3.view.readAt (Elt F) (Rect.unit (s := S1x1x33x2x256x128) (k0_off5 i (BitVec.ofNat 32 2)) S1x1x1x1x256x128.size (k0_off5_inb i hc hc2 hc3 2)).toLoadRect f3) (arg4.view.readAt (Elt F) (Rect.unit (s := S1x1x1x2x128x256) (qOff 0) S1x1x1x1x128x256.size (qOff_inb 0)).toLoadRect f4) | 3 => score (arg3.view.readAt (Elt F) (Rect.unit (s := S1x1x33x2x256x128) (k0_off5 i (BitVec.ofNat 32 2)) S1x1x1x1x256x128.size (k0_off5_inb i hc hc2 hc3 2)).toLoadRect f3) (arg4.view.readAt (Elt F) (Rect.unit (s := S1x1x1x2x128x256) (qOff 0) S1x1x1x1x128x256.size (qOff_inb 0)).toLoadRect f4))
      (fun r => match r with | 0 => score (arg3.view.readAt (Elt F) (Rect.unit (s := S1x1x33x2x256x128) (k0_off6 i (BitVec.ofNat 32 0)) S1x1x1x1x256x128.size (k0_off6_inb i hc hc2 hc3 0)).toLoadRect f3) (arg4.view.readAt (Elt F) (Rect.unit (s := S1x1x1x2x128x256) (qOff 1) S1x1x1x1x128x256.size (qOff_inb 1)).toLoadRect f4) | 1 => score (arg3.view.readAt (Elt F) (Rect.unit (s := S1x1x33x2x256x128) (k0_off6 i (BitVec.ofNat 32 1)) S1x1x1x1x256x128.size (k0_off6_inb i hc hc2 hc3 1)).toLoadRect f3) (arg4.view.readAt (Elt F) (Rect.unit (s := S1x1x1x2x128x256) (qOff 1) S1x1x1x1x128x256.size (qOff_inb 1)).toLoadRect f4) | 2 => score (arg3.view.readAt (Elt F) (Rect.unit (s := S1x1x33x2x256x128) (k0_off6 i (BitVec.ofNat 32 2)) S1x1x1x1x256x128.size (k0_off6_inb i hc hc2 hc3 2)).toLoadRect f3) (arg4.view.readAt (Elt F) (Rect.unit (s := S1x1x1x2x128x256) (qOff 1) S1x1x1x1x128x256.size (qOff_inb 1)).toLoadRect f4) | 3 => score (arg3.view.readAt (Elt F) (Rect.unit (s := S1x1x33x2x256x128) (k0_off6 i (BitVec.ofNat 32 2)) S1x1x1x1x256x128.size (k0_off6_inb i hc hc2 hc3 2)).toLoadRect f3) (arg4.view.readAt (Elt F) (Rect.unit (s := S1x1x1x2x128x256) (qOff 1) S1x1x1x1x128x256.size (qOff_inb 1)).toLoadRect f4)))
  have z00 := (hzr 0 0 (by decide)).trans (zF_eq (readAt_k h3 (tile (i 2) 0 0) 0 (k0_off5_inb i hc hc2 hc3 0) (off5_eq i hq 0)) (hqr 0))
  have z01 := (hzr 0 1 (by decide)).trans (zF_eq (readAt_k h3 (tile (i 2) 0 1) 0 (k0_off5_inb i hc hc2 hc3 1) (off5_eq i hq 1)) (hqr 0))
  have z02 := (hzr 0 2 (by decide)).trans (zF_eq (readAt_k h3 (tile (i 2) 0 2) 0 (k0_off5_inb i hc hc2 hc3 2) (off5_eq i hq 2)) (hqr 0))
  have z10 := (hzr 1 0 (by decide)).trans (zF_eq (readAt_k h3 (tile (i 2) 0 0) 1 (k0_off6_inb i hc hc2 hc3 0) (off6_eq i hq 0)) (hqr 1))
  have z11 := (hzr 1 1 (by decide)).trans (zF_eq (readAt_k h3 (tile (i 2) 0 1) 1 (k0_off6_inb i hc hc2 hc3 1) (off6_eq i hq 1)) (hqr 1))
  have z12 := (hzr 1 2 (by decide)).trans (zF_eq (readAt_k h3 (tile (i 2) 0 2) 1 (k0_off6_inb i hc hc2 hc3 2) (off6_eq i hq 2)) (hqr 1))
  refine ⟨?_, ?_, ?_⟩
  · refine isFirst_of ?_ ?_ ?_ ?_ ?_ ?_ ?_ ?_ ?_ ?_ ?_ ?_ ?_
    · rfl
    · rfl
    · rfl
    · rfl
    · rw [live0, hq]
    · refine Eq.trans ?_ (csF_diag hu z00); rfl
    · refine Eq.trans ?_ (csF_live (k := 1) (by decide) (by rw [live0, hq]; decide) hu z01); rfl
    · refine Eq.trans ?_ (csF_live (k := 2) (by decide) (by rw [live0, hq]; decide) hu z02); rfl
    · refine Eq.trans ?_ (csF_dead (k := 3) (by rw [live0, hq]; decide)); rfl
    · refine Eq.trans ?_ (csF_diag hu z10); rfl
    · refine Eq.trans ?_ (csF_live (k := 1) (by decide) (by rw [live0, hq]; decide) hu z11); rfl
    · refine Eq.trans ?_ (csF_live (k := 2) (by decide) (by rw [live0, hq]; decide) hu z12); rfl
    · refine Eq.trans ?_ (csF_dead (k := 3) (by rw [live0, hq]; decide)); rfl
  · refine readsZ_eight arg9.view arg9.view.junk (zF X (i 2) 1) [] ?_ ?_ ?_ ?_ ?_ ?_ ?_ ?_
    · refine Eq.trans ?_ (zF_eq (readAt_k h3 (tile (i 2) 1 0) 0 (k0_off7_inb i hc hc2 hc3 0) (off7_eq i hq 0)) (hqr 0)); rfl
    · refine Eq.trans ?_ (zF_eq (readAt_k h3 (tile (i 2) 1 1) 0 (k0_off7_inb i hc hc2 hc3 1) (off7_eq i hq 1)) (hqr 0)); rfl
    · refine Eq.trans ?_ (zF_eq (readAt_k h3 (tile (i 2) 1 2) 0 (k0_off7_inb i hc hc2 hc3 2) (off7_eq i hq 2)) (hqr 0)); rfl
    · refine Eq.trans ?_ (zF_eq (readAt_k h3 (tile (i 2) 1 3) 0 (k0_off7_inb i hc hc2 hc3 3) (off7_eq i hq 3)) (hqr 0)); rfl
    · refine Eq.trans ?_ (zF_eq (readAt_k h3 (tile (i 2) 1 0) 1 (k0_off8_inb i hc hc2 hc3 0) (off8_eq i hq 0)) (hqr 1)); rfl
    · refine Eq.trans ?_ (zF_eq (readAt_k h3 (tile (i 2) 1 1) 1 (k0_off8_inb i hc hc2 hc3 1) (off8_eq i hq 1)) (hqr 1)); rfl
    · refine Eq.trans ?_ (zF_eq (readAt_k h3 (tile (i 2) 1 2) 1 (k0_off8_inb i hc hc2 hc3 2) (off8_eq i hq 2)) (hqr 1)); rfl
    · refine Eq.trans ?_ (zF_eq (readAt_k h3 (tile (i 2) 1 3) 1 (k0_off8_inb i hc hc2 hc3 3) (off8_eq i hq 3)) (hqr 1)); rfl
  · refine readsP_eight arg10.view f10 0 (pF X (i 2) 0) [] ?_ ?_ ?_ ?_ ?_ ?_ ?_ ?_
    · refine Eq.trans ?_ (pF_diag hu z00); rfl
    · refine Eq.trans ?_ (pF_live (k := 1) (by decide) (by rw [live0, hq]; decide) hu z01); rfl
    · refine Eq.trans ?_ (pF_live (k := 2) (by decide) (by rw [live0, hq]; decide) hu z02); rfl
    · refine Eq.trans ?_ (pF_dead (k := 3) (by rw [live0, hq]; decide)); rfl
    · refine Eq.trans ?_ (pF_diag hu z10); rfl
    · refine Eq.trans ?_ (pF_live (k := 1) (by decide) (by rw [live0, hq]; decide) hu z11); rfl
    · refine Eq.trans ?_ (pF_live (k := 2) (by decide) (by rw [live0, hq]; decide) hu z12); rfl
    · refine Eq.trans ?_ (pF_dead (k := 3) (by rw [live0, hq]; decide)); rfl
end

end Cert.Proof.Sb

end
-- ==== Proof.First4.lean ====
module

public import proofs.«01_k».proof.Proof.Carry
public import proofs.«01_k».proof.Proof.Gen.KernelIdeal.Loops
public import Idealize.ShloMosaic.Lib.Tactic

/-! The first group, when it has 4 live tiles. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- The first group when it has 4 live tiles. -/
theorem first4 (X : Blocks F) (hq : (i 2).val % 4 = 3) (hc : k0_cond1 i = 1#1) (hc2 : k0_cond2 i = 1#1) (hc3 : k0_cond3 i = 1#1)
   (f3 : Bf F c arg3) (f4 : Bf F c arg4) (f6 : Bf F c arg6) (f8 : Bf F c arg8) (f9 : Bf F c arg9) (f10 : Bf F c arg10)
   (h3 : arg3.view.read (Elt F) f3 = X.k) (h4 : arg4.view.read (Elt F) f4 = X.q) (h6 : arg6.view.read (Elt F) f6 = X.u)
   (Q : FirstOut F → sProp 𝕄) :
   iprop(held c arg3 f3 ∗ held c arg4 f4 ∗ held c arg6 f6 ∗ held c arg8 f8 ∗ held c arg9 f9 ∗ held c arg10 f10 ∗
      (∀ x f8' f9' f10', iprop(held c arg3 f3 ∗ held c arg4 f4 ∗ held c arg6 f6 ∗ held c arg8 f8' ∗ held c arg9 f9' ∗ held c arg10 f10' ∗
        ⌜IsFirst X (i 2) x ∧ ReadsZ arg9.view f9' (zF X (i 2) 1) ∧ ReadsP arg10.view f10' 0 (pF X (i 2) 0)⌝) -∗ Q x))
     ⊢ wp frame (wpE (defs₀ (F := F)) 𝒱₀ (c : Thread nD τ) none) Set.univ
       (k0_part105 (F := F) i arg3 harg3 arg4 harg4 arg5 harg5 arg6 harg6 arg7 harg7 arg8 harg8 arg9 harg9 arg10 harg10) Q := by
  iintro ⟨H3, H4, H6, H8, H9, H10, Hk⟩
  sl_unfold [k0_part105]
  sl_exec_parts!
  sl_step
  iapply Hk
  isplitl [H3]; · iexact H3
  isplitl [H4]; · iexact H4
  isplitl [H6]; · iexact H6
  isplitl [H8]; · iexact H8
  isplitl [H9]; · iexact H9
  isplitl [H10]; · iexact H10
  ipureintro
  have hu := readAt_u h6 inb_S256x256_S256x256_0_0
  have hqr := fun hh => readAt_q h4 hh (qOff_inb hh) rfl
  -- the scores of the live tiles, read back from the first score buffer
  have hzr := zw_list4 arg8.view arg8.view.junk (two
      (fun r => match r with | 0 => score (arg3.view.readAt (Elt F) (Rect.unit (s := S1x1x33x2x256x128) (k0_off1 i (BitVec.ofNat 32 0)) S1x1x1x1x256x128.size (k0_off1_inb i hc hc2 hc3 0)).toLoadRect f3) (arg4.view.readAt (Elt F) (Rect.unit (s := S1x1x1x2x128x256) (qOff 0) S1x1x1x1x128x256.size (qOff_inb 0)).toLoadRect f4) | 1 => score (arg3.view.readAt (Elt F) (Rect.unit (s := S1x1x33x2x256x128) (k0_off1 i (BitVec.ofNat 32 1)) S1x1x1x1x256x128.size (k0_off1_inb i hc hc2 hc3 1)).toLoadRect f3) (arg4.view.readAt (Elt F) (Rect.unit (s := S1x1x1x2x128x256) (qOff 0) S1x1x1x1x128x256.size (qOff_inb 0)).toLoadRect f4) | 2 => score (arg3.view.readAt (Elt F) (Rect.unit (s := S1x1x33x2x256x128) (k0_off1 i (BitVec.ofNat 32 2)) S1x1x1x1x256x128.size (k0_off1_inb i hc hc2 hc3 2)).toLoadRect f3) (arg4.view.readAt (Elt F) (Rect.unit (s := S1x1x1x2x128x256) (qOff 0) S1x1x1x1x128x256.size (qOff_inb 0)).toLoadRect f4) | 3 => score (arg3.view.readAt (Elt F) (Rect.unit (s := S1x1x33x2x256x128) (k0_off1 i (BitVec.ofNat 32 3)) S1x1x1x1x256x128.size (k0_off1_inb i hc hc2 hc3 3)).toLoadRect f3) (arg4.view.readAt (Elt F) (Rect.unit (s := S1x1x1x2x128x256) (qOff 0) S1x1x1x1x128x256.size (qOff_inb 0)).toLoadRect f4))
      (fun r => match r with | 0 => score (arg3.view.readAt (Elt F) (Rect.unit (s := S1x1x33x2x256x128) (k0_off2 i (BitVec.ofNat 32 0)) S1x1x1x1x256x128.size (k0_off2_inb i hc hc2 hc3 0)).toLoadRect f3) (arg4.view.readAt (Elt F) (Rect.unit (s := S1x1x1x2x128x256) (qOff 1) S1x1x1x1x128x256.size (qOff_inb 1)).toLoadRect f4) | 1 => score (arg3.view.readAt (Elt F) (Rect.unit (s := S1x1x33x2x256x128) (k0_off2 i (BitVec.ofNat 32 1)) S1x1x1x1x256x128.size (k0_off2_inb i hc hc2 hc3 1)).toLoadRect f3) (arg4.view.readAt (Elt F) (Rect.unit (s := S1x1x1x2x128x256) (qOff 1) S1x1x1x1x128x256.size (qOff_inb 1)).toLoadRect f4) | 2 => score (arg3.view.readAt (Elt F) (Rect.unit (s := S1x1x33x2x256x128) (k0_off2 i (BitVec.ofNat 32 2)) S1x1x1x1x256x128.size (k0_off2_inb i hc hc2 hc3 2)).toLoadRect f3) (arg4.view.readAt (Elt F) (Rect.unit (s := S1x1x1x2x128x256) (qOff 1) S1x1x1x1x128x256.size (qOff_inb 1)).toLoadRect f4) | 3 => score (arg3.view.readAt (Elt F) (Rect.unit (s := S1x1x33x2x256x128) (k0_off2 i (BitVec.ofNat 32 3)) S1x1x1x1x256x128.size (k0_off2_inb i hc hc2 hc3 3)).toLoadRect f3) (arg4.view.readAt (Elt F) (Rect.unit (s := S1x1x1x2x128x256) (qOff 1) S1x1x1x1x128x256.size (qOff_inb 1)).toLoadRect f4)))
  have z00 := (hzr 0 0 (by decide)).trans (zF_eq (readAt_k h3 (tile (i 2) 0 0) 0 (k0_off1_inb i hc hc2 hc3 0) (off1_eq i hq 0)) (hqr 0))
  have z01 := (hzr 0 1 (by decide)).trans (zF_eq (readAt_k h3 (tile (i 2) 0 1) 0 (k0_off1_inb i hc hc2 hc3 1) (off1_eq i hq 1)) (hqr 0))
  have z02 := (hzr 0 2 (by decide)).trans (zF_eq (readAt_k h3 (tile (i 2) 0 2) 0 (k0_off1_inb i hc hc2 hc3 2) (off1_eq i hq 2)) (hqr 0))
  have z03 := (hzr 0 3 (by decide)).trans (zF_eq (readAt_k h3 (tile (i 2) 0 3) 0 (k0_off1_inb i hc hc2 hc3 3) (off1_eq i hq 3)) (hqr 0))
  have z10 := (hzr 1 0 (by decide)).trans (zF_eq (readAt_k h3 (tile (i 2) 0 0) 1 (k0_off2_inb i hc hc2 hc3 0) (off2_eq i hq 0)) (hqr 1))
  have z11 := (hzr 1 1 (by decide)).trans (zF_eq (readAt_k h3 (tile (i 2) 0 1) 1 (k0_off2_inb i hc hc2 hc3 1) (off2_eq i hq 1)) (hqr 1))
  have z12 := (hzr 1 2 (by decide)).trans (zF_eq (readAt_k h3 (tile (i 2) 0 2) 1 (k0_off2_inb i hc hc2 hc3 2) (off2_eq i hq 2)) (hqr 1))
  have z13 := (hzr 1 3 (by decide)).trans (zF_eq (readAt_k h3 (tile (i 2) 0 3) 1 (k0_off2_inb i hc hc2 hc3 3) (off2_eq i hq 3)) (hqr 1))
  refine ⟨?_, ?_, ?_⟩
  · refine isFirst_of ?_ ?_ ?_ ?_ ?_ ?_ ?_ ?_ ?_ ?_ ?_ ?_ ?_
    · rfl
    · rfl
    · rfl
    · rfl
    · rw [live0, hq]
    · refine Eq.trans ?_ (csF_diag hu z00); rfl
    · refine Eq.trans ?_ (csF_live (k := 1) (by decide) (by rw [live0, hq]; decide) hu z01); rfl
    · refine Eq.trans ?_ (csF_live (k := 2) (by decide) (by rw [live0, hq]; decide) hu z02); rfl
    · refine Eq.trans ?_ (csF_live (k := 3) (by decide) (by rw [live0, hq]; decide) hu z03); rfl
    · refine Eq.trans ?_ (csF_diag hu z10); rfl
    · refine Eq.trans ?_ (csF_live (k := 1) (by decide) (by rw [live0, hq]; decide) hu z11); rfl
    · refine Eq.trans ?_ (csF_live (k := 2) (by decide) (by rw [live0, hq]; decide) hu z12); rfl
    · refine Eq.trans ?_ (csF_live (k := 3) (by decide) (by rw [live0, hq]; decide) hu z13); rfl
  · refine readsZ_eight arg9.view arg9.view.junk (zF X (i 2) 1) [] ?_ ?_ ?_ ?_ ?_ ?_ ?_ ?_
    · refine Eq.trans ?_ (zF_eq (readAt_k h3 (tile (i 2) 1 0) 0 (k0_off3_inb i hc hc2 hc3 0) (off3_eq i hq 0)) (hqr 0)); rfl
    · refine Eq.trans ?_ (zF_eq (readAt_k h3 (tile (i 2) 1 1) 0 (k0_off3_inb i hc hc2 hc3 1) (off3_eq i hq 1)) (hqr 0)); rfl
    · refine Eq.trans ?_ (zF_eq (readAt_k h3 (tile (i 2) 1 2) 0 (k0_off3_inb i hc hc2 hc3 2) (off3_eq i hq 2)) (hqr 0)); rfl
    · refine Eq.trans ?_ (zF_eq (readAt_k h3 (tile (i 2) 1 3) 0 (k0_off3_inb i hc hc2 hc3 3) (off3_eq i hq 3)) (hqr 0)); rfl
    · refine Eq.trans ?_ (zF_eq (readAt_k h3 (tile (i 2) 1 0) 1 (k0_off4_inb i hc hc2 hc3 0) (off4_eq i hq 0)) (hqr 1)); rfl
    · refine Eq.trans ?_ (zF_eq (readAt_k h3 (tile (i 2) 1 1) 1 (k0_off4_inb i hc hc2 hc3 1) (off4_eq i hq 1)) (hqr 1)); rfl
    · refine Eq.trans ?_ (zF_eq (readAt_k h3 (tile (i 2) 1 2) 1 (k0_off4_inb i hc hc2 hc3 2) (off4_eq i hq 2)) (hqr 1)); rfl
    · refine Eq.trans ?_ (zF_eq (readAt_k h3 (tile (i 2) 1 3) 1 (k0_off4_inb i hc hc2 hc3 3) (off4_eq i hq 3)) (hqr 1)); rfl
  · refine readsP_eight arg10.view f10 0 (pF X (i 2) 0) [] ?_ ?_ ?_ ?_ ?_ ?_ ?_ ?_
    · refine Eq.trans ?_ (pF_diag hu z00); rfl
    · refine Eq.trans ?_ (pF_live (k := 1) (by decide) (by rw [live0, hq]; decide) hu z01); rfl
    · refine Eq.trans ?_ (pF_live (k := 2) (by decide) (by rw [live0, hq]; decide) hu z02); rfl
    · refine Eq.trans ?_ (pF_live (k := 3) (by decide) (by rw [live0, hq]; decide) hu z03); rfl
    · refine Eq.trans ?_ (pF_diag hu z10); rfl
    · refine Eq.trans ?_ (pF_live (k := 1) (by decide) (by rw [live0, hq]; decide) hu z11); rfl
    · refine Eq.trans ?_ (pF_live (k := 2) (by decide) (by rw [live0, hq]; decide) hu z12); rfl
    · refine Eq.trans ?_ (pF_live (k := 3) (by decide) (by rw [live0, hq]; decide) hu z13); rfl
end

end Cert.Proof.Sb

end
-- ==== Proof.TripOdd.lean ====
module

public import proofs.«01_k».proof.Proof.Carry
public import proofs.«01_k».proof.Proof.Gen.KernelIdeal.Loops
public import Idealize.ShloMosaic.Lib.Tactic

/-! One trip of the loop in which only the odd group runs. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- A trip at which the condition of the even group fails: the pending group is folded in, the odd group becomes the pending one. -/
theorem trip_odd (X : Blocks F) (arg2 v5 : BitVec 32) (v0 : FVec F S64x256 .f32) (v1 : FVec F S1x256 .f32) (v2 : FVec F S64x256 .f32) (v3 : FVec F S1x256 .f32) (v22 v27_0 : BitVec 32) (w1 w2 w3 w4 w5 w6 w7 w8 : FVec F S1x256 .f32) (v28 c2 v29 v34 c0 : BitVec 32)
   (k : Fin (k0_t1_loop i).trips) (A0 : FVec F S64x256 .f32) (R0 : FVec F S1x256 .f32) (A1 : FVec F S64x256 .f32) (R1 : FVec F S1x256 .f32) (j n : BitVec 32)
   (s0 s1 s2 s3 s4 s5 s6 s7 : FVec F S1x256 .f32)
   (h2 : arg2 = BitVec.ofNat 32 (i 2).val) (h5 : v5 = Scalar.addi (Scalar.remsi (BitVec.ofNat 32 (i 2).val) 4#32) 1#32)
   (hchk : k0_chk1 i k j) (hc : k0_cond4 i k ≠ 1#1) (hk : 2 * k.val + 1 ≤ (i 2).val / 4)
   (f3 : Bf F c arg3) (f4 : Bf F c arg4) (f5 : Bf F c arg5) (f6 : Bf F c arg6) (f8 : Bf F c arg8) (f9 : Bf F c arg9) (f10 : Bf F c arg10)
   (h3 : arg3.view.read (Elt F) f3 = X.k) (h4 : arg4.view.read (Elt F) f4 = X.q) (h5' : arg5.view.read (Elt F) f5 = X.v) (h6 : arg6.view.read (Elt F) f6 = X.u)
   (hcar : (A0, R0, A1, R1, j, n, s0, s1, s2, s3, s4, s5, s6, s7) = carryOf X (i 2) (2 * k.val))
   (hz : ReadsZ arg9.view f9 (zF X (i 2) (2 * k.val + 1))) (hp : ReadsP arg10.view f10 0 (pF X (i 2) (2 * k.val)))
   (Q : Carry F → sProp 𝕄) :
   iprop(held c arg3 f3 ∗ held c arg4 f4 ∗ held c arg5 f5 ∗ held c arg6 f6 ∗ held c arg8 f8 ∗ held c arg9 f9 ∗ held c arg10 f10 ∗
      (∀ x f8' f9' f10', iprop(held c arg3 f3 ∗ held c arg4 f4 ∗ held c arg5 f5 ∗ held c arg6 f6 ∗ held c arg8 f8' ∗ held c arg9 f9' ∗ held c arg10 f10' ∗ ⌜x = carryOf X (i 2) (2 * k.val + 1) ∧ ReadsP arg10.view f10' 1 (pF X (i 2) (2 * k.val + 1))⌝) -∗ Q x))
     ⊢ wp frame (wpE (defs₀ (F := F)) 𝒱₀ (c : Thread nD τ) none) Set.univ
       (k0_t1_body (F := F) i arg3 harg3 arg4 harg4 arg5 harg5 arg6 harg6 arg7 harg7 arg8 harg8 arg9 harg9 arg10 harg10 arg2 v0 v1 v2 v3 v5 v22 v27_0 w1 w2 w3 w4 w5 w6 w7 w8 v28 c2 v29 v34 c0 k (A0, R0, A1, R1, j, n, s0, s1, s2, s3, s4, s5, s6, s7)) Q := by
  iintro ⟨H3, H4, H5, H6, H8, H9, H10, Hk⟩
  sl_unfold [k0_t1_body]
  sl_exec_parts!
  sl_step
  iapply Hk
  isplitl [H3]; · iexact H3
  isplitl [H4]; · iexact H4
  isplitl [H5]; · iexact H5
  isplitl [H6]; · iexact H6
  isplitl [H8]; · iexact H8
  isplitl [H9]; · iexact H9
  isplitl [H10]; · iexact H10
  ipureintro
  simp only [carryOf, Prod.mk.injEq] at hcar
  obtain ⟨rfl, rfl, rfl, rfl, rfl, rfl, rfl, rfl, rfl, rfl, rfl, rfl, rfl, rfl⟩ := hcar
  have hu := readAt_u h6 inb_S256x256_S256x256_0_0
  have hzr := fun hh k => readAt_z hz hh k (zOff_inb hh k) rfl
  have hpr := fun hh k => readAt_p hp hh k (pOff_inb 0 hh k) rfl
  have hv0 := fun r => readAt_v h5' (tile (i 2) (2 * k.val) r) 0 (k0_off17_inb i k _ hchk r) (off17_eq (i 2) _ r)
  have hv1 := fun r => readAt_v h5' (tile (i 2) (2 * k.val) r) 1 (k0_off18_inb i k _ hchk r) (off18_eq (i 2) _ r)
  refine ⟨?_, ?_⟩
  · refine carry_eq ?_ ?_ ?_ ?_ ?_ ?_ ?_ ?_ ?_ ?_ ?_ ?_ ?_ ?_
    · refine Eq.trans ?_ (foldAcc_st rfl rfl rfl rfl rfl rfl rfl hv0 (hpr 0)); rfl
    · refine Eq.trans ?_ (foldRow_st rfl rfl rfl rfl rfl rfl); rfl
    · refine Eq.trans ?_ (foldAcc_st rfl rfl rfl rfl rfl rfl rfl hv1 (hpr 1)); rfl
    · refine Eq.trans ?_ (foldRow_st rfl rfl rfl rfl rfl rfl); rfl
    · subst h2 h5; exact word_newest (i 2) k.val hk
    · rfl
    · refine Eq.trans ?_ (csOf_eq hu (hzr 0 0)); rfl
    · refine Eq.trans ?_ (csOf_eq hu (hzr 0 1)); rfl
    · refine Eq.trans ?_ (csOf_eq hu (hzr 0 2)); rfl
    · refine Eq.trans ?_ (csOf_eq hu (hzr 0 3)); rfl
    · refine Eq.trans ?_ (csOf_eq hu (hzr 1 0)); rfl
    · refine Eq.trans ?_ (csOf_eq hu (hzr 1 1)); rfl
    · refine Eq.trans ?_ (csOf_eq hu (hzr 1 2)); rfl
    · refine Eq.trans ?_ (csOf_eq hu (hzr 1 3)); rfl
  · exact readsP_eight arg10.view f10 1 (pF X (i 2) (2 * k.val + 1)) []
      (pOf_eq hu (hzr 0 0)) (pOf_eq hu (hzr 0 1)) (pOf_eq hu (hzr 0 2)) (pOf_eq hu (hzr 0 3))
      (pOf_eq hu (hzr 1 0)) (pOf_eq hu (hzr 1 1)) (pOf_eq hu (hzr 1 2)) (pOf_eq hu (hzr 1 3))
end

end Cert.Proof.Sb

end
-- ==== Proof.TripEven.lean ====
module

public import proofs.«01_k».proof.Proof.Carry
public import proofs.«01_k».proof.Proof.Gen.KernelIdeal.Loops
public import Idealize.ShloMosaic.Lib.Tactic

/-! One trip of the loop in which both groups run. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- A trip at which the condition of the even group holds: the pending group and the odd group are folded in, the even group becomes the pending one. -/
theorem trip_even (X : Blocks F) (arg2 v5 : BitVec 32) (v0 : FVec F S64x256 .f32) (v1 : FVec F S1x256 .f32) (v2 : FVec F S64x256 .f32) (v3 : FVec F S1x256 .f32) (v22 v27_0 : BitVec 32) (w1 w2 w3 w4 w5 w6 w7 w8 : FVec F S1x256 .f32) (v28 c2 v29 v34 c0 : BitVec 32)
   (k : Fin (k0_t1_loop i).trips) (A0 : FVec F S64x256 .f32) (R0 : FVec F S1x256 .f32) (A1 : FVec F S64x256 .f32) (R1 : FVec F S1x256 .f32) (j n : BitVec 32)
   (s0 s1 s2 s3 s4 s5 s6 s7 : FVec F S1x256 .f32)
   (h2 : arg2 = BitVec.ofNat 32 (i 2).val) (h5 : v5 = Scalar.addi (Scalar.remsi (BitVec.ofNat 32 (i 2).val) 4#32) 1#32)
   (hchk : k0_chk1 i k j) (hc : k0_cond4 i k = 1#1) (hk : 2 * k.val + 2 ≤ (i 2).val / 4)
   (f3 : Bf F c arg3) (f4 : Bf F c arg4) (f5 : Bf F c arg5) (f6 : Bf F c arg6) (f8 : Bf F c arg8) (f9 : Bf F c arg9) (f10 : Bf F c arg10)
   (h3 : arg3.view.read (Elt F) f3 = X.k) (h4 : arg4.view.read (Elt F) f4 = X.q) (h5' : arg5.view.read (Elt F) f5 = X.v) (h6 : arg6.view.read (Elt F) f6 = X.u)
   (hcar : (A0, R0, A1, R1, j, n, s0, s1, s2, s3, s4, s5, s6, s7) = carryOf X (i 2) (2 * k.val))
   (hz : ReadsZ arg9.view f9 (zF X (i 2) (2 * k.val + 1))) (hp : ReadsP arg10.view f10 0 (pF X (i 2) (2 * k.val)))
   (Q : Carry F → sProp 𝕄) :
   iprop(held c arg3 f3 ∗ held c arg4 f4 ∗ held c arg5 f5 ∗ held c arg6 f6 ∗ held c arg8 f8 ∗ held c arg9 f9 ∗ held c arg10 f10 ∗
      (∀ x f8' f9' f10', iprop(held c arg3 f3 ∗ held c arg4 f4 ∗ held c arg5 f5 ∗ held c arg6 f6 ∗ held c arg8 f8' ∗ held c arg9 f9' ∗ held c arg10 f10' ∗ ⌜x = carryOf X (i 2) (2 * k.val + 2) ∧ ReadsZ arg9.view f9' (zF X (i 2) (2 * k.val + 3)) ∧ ReadsP arg10.view f10' 0 (pF X (i 2) (2 * k.val + 2))⌝) -∗ Q x))
     ⊢ wp frame (wpE (defs₀ (F := F)) 𝒱₀ (c : Thread nD τ) none) Set.univ
       (k0_t1_body (F := F) i arg3 harg3 arg4 harg4 arg5 harg5 arg6 harg6 arg7 harg7 arg8 harg8 arg9 harg9 arg10 harg10 arg2 v0 v1 v2 v3 v5 v22 v27_0 w1 w2 w3 w4 w5 w6 w7 w8 v28 c2 v29 v34 c0 k (A0, R0, A1, R1, j, n, s0, s1, s2, s3, s4, s5, s6, s7)) Q := by
  iintro ⟨H3, H4, H5, H6, H8, H9, H10, Hk⟩
  sl_unfold [k0_t1_body]
  sl_exec_parts!
  sl_step
  iapply Hk
  isplitl [H3]; · iexact H3
  isplitl [H4]; · iexact H4
  isplitl [H5]; · iexact H5
  isplitl [H6]; · iexact H6
  isplitl [H8]; · iexact H8
  isplitl [H9]; · iexact H9
  isplitl [H10]; · iexact H10
  ipureintro
  simp only [carryOf, Prod.mk.injEq] at hcar
  obtain ⟨rfl, rfl, rfl, rfl, rfl, rfl, rfl, rfl, rfl, rfl, rfl, rfl, rfl, rfl⟩ := hcar
  have hu := readAt_u h6 inb_S256x256_S256x256_0_0
  have hzr := fun hh k => readAt_z hz hh k (zOff_inb hh k) rfl
  have hpr := fun hh k => readAt_p hp hh k (pOff_inb 0 hh k) rfl
  have hv0 := fun r => readAt_v h5' (tile (i 2) (2 * k.val) r) 0 (k0_off17_inb i k _ hchk r) (off17_eq (i 2) _ r)
  have hv1 := fun r => readAt_v h5' (tile (i 2) (2 * k.val) r) 1 (k0_off18_inb i k _ hchk r) (off18_eq (i 2) _ r)
  -- the odd group's weights, read back from the second half of the weight buffer
  have hpA := readsP_list arg10.view arg10.view.junk 1 _ (pF X (i 2) (2 * k.val + 1)) [] (fun hh r => pOf_eq hu (hzr hh r))
  have hpAr := fun hh r => readAt_p hpA hh r (pOff_inb 1 hh r) rfl
  -- the even group's scores, read back from the first score buffer
  have hqr := fun hh => readAt_q h4 hh (qOff_inb hh) rfl
  have hzB := readsZ_list arg8.view arg8.view.junk _ (zF X (i 2) (2 * k.val + 2))
    (two_eq (fun r => zF_eq (readAt_k h3 (tile (i 2) (2 * k.val + 2) r) 0 (k0_off19_inb i k r) (off19_eq i k r)) (hqr 0))
      (fun r => zF_eq (readAt_k h3 (tile (i 2) (2 * k.val + 2) r) 1 (k0_off20_inb i k r) (off20_eq i k r)) (hqr 1)))
  have hzBr := fun hh r => readAt_z hzB hh r (zOff_inb hh r) rfl
  have hvB0 := fun r => readAt_v h5' (tile (i 2) (2 * k.val + 1) r) 0 (k0_off21_inb i k hc r) (off21_eq i k r)
  have hvB1 := fun r => readAt_v h5' (tile (i 2) (2 * k.val + 1) r) 1 (k0_off22_inb i k hc r) (off22_eq i k r)
  refine ⟨?_, ?_, ?_⟩
  · refine carry_eq ?_ ?_ ?_ ?_ ?_ ?_ ?_ ?_ ?_ ?_ ?_ ?_ ?_ ?_
    · refine Eq.trans ?_ (foldAcc_st (g := 2 * k.val + 1) rfl (foldAcc_st rfl rfl rfl rfl rfl rfl rfl hv0 (hpr 0)) (foldRow_st rfl rfl rfl rfl rfl rfl) (csOf_eq hu (hzr 0 0)) (csOf_eq hu (hzr 0 1)) (csOf_eq hu (hzr 0 2)) (csOf_eq hu (hzr 0 3)) hvB0 (hpAr 0)); rfl
    · refine Eq.trans ?_ (foldRow_st (g := 2 * k.val + 1) rfl (foldRow_st rfl rfl rfl rfl rfl rfl) (csOf_eq hu (hzr 0 0)) (csOf_eq hu (hzr 0 1)) (csOf_eq hu (hzr 0 2)) (csOf_eq hu (hzr 0 3))); rfl
    · refine Eq.trans ?_ (foldAcc_st (g := 2 * k.val + 1) rfl (foldAcc_st rfl rfl rfl rfl rfl rfl rfl hv1 (hpr 1)) (foldRow_st rfl rfl rfl rfl rfl rfl) (csOf_eq hu (hzr 1 0)) (csOf_eq hu (hzr 1 1)) (csOf_eq hu (hzr 1 2)) (csOf_eq hu (hzr 1 3)) hvB1 (hpAr 1)); rfl
    · refine Eq.trans ?_ (foldRow_st (g := 2 * k.val + 1) rfl (foldRow_st rfl rfl rfl rfl rfl rfl) (csOf_eq hu (hzr 1 0)) (csOf_eq hu (hzr 1 1)) (csOf_eq hu (hzr 1 2)) (csOf_eq hu (hzr 1 3))); rfl
    · subst h2 h5; exact word_newest2 (i 2) k.val hk
    · rfl
    · refine Eq.trans ?_ (csOf_eq hu (hzBr 0 0)); rfl
    · refine Eq.trans ?_ (csOf_eq hu (hzBr 0 1)); rfl
    · refine Eq.trans ?_ (csOf_eq hu (hzBr 0 2)); rfl
    · refine Eq.trans ?_ (csOf_eq hu (hzBr 0 3)); rfl
    · refine Eq.trans ?_ (csOf_eq hu (hzBr 1 0)); rfl
    · refine Eq.trans ?_ (csOf_eq hu (hzBr 1 1)); rfl
    · refine Eq.trans ?_ (csOf_eq hu (hzBr 1 2)); rfl
    · refine Eq.trans ?_ (csOf_eq hu (hzBr 1 3)); rfl
  · refine readsZ_eight arg9.view arg9.view.junk (zF X (i 2) (2 * k.val + 3)) [] ?_ ?_ ?_ ?_ ?_ ?_ ?_ ?_
    · refine Eq.trans ?_ (zF_eq (readAt_k h3 (tile (i 2) (2 * k.val + 3) 0) 0 (k0_off23_inb i k hc 0) (off23_eq i k hk 0)) (hqr 0)); rfl
    · refine Eq.trans ?_ (zF_eq (readAt_k h3 (tile (i 2) (2 * k.val + 3) 1) 0 (k0_off23_inb i k hc 1) (off23_eq i k hk 1)) (hqr 0)); rfl
    · refine Eq.trans ?_ (zF_eq (readAt_k h3 (tile (i 2) (2 * k.val + 3) 2) 0 (k0_off23_inb i k hc 2) (off23_eq i k hk 2)) (hqr 0)); rfl
    · refine Eq.trans ?_ (zF_eq (readAt_k h3 (tile (i 2) (2 * k.val + 3) 3) 0 (k0_off23_inb i k hc 3) (off23_eq i k hk 3)) (hqr 0)); rfl
    · refine Eq.trans ?_ (zF_eq (readAt_k h3 (tile (i 2) (2 * k.val + 3) 0) 1 (k0_off24_inb i k hc 0) (off24_eq i k hk 0)) (hqr 1)); rfl
    · refine Eq.trans ?_ (zF_eq (readAt_k h3 (tile (i 2) (2 * k.val + 3) 1) 1 (k0_off24_inb i k hc 1) (off24_eq i k hk 1)) (hqr 1)); rfl
    · refine Eq.trans ?_ (zF_eq (readAt_k h3 (tile (i 2) (2 * k.val + 3) 2) 1 (k0_off24_inb i k hc 2) (off24_eq i k hk 2)) (hqr 1)); rfl
    · refine Eq.trans ?_ (zF_eq (readAt_k h3 (tile (i 2) (2 * k.val + 3) 3) 1 (k0_off24_inb i k hc 3) (off24_eq i k hk 3)) (hqr 1)); rfl
  · refine readsP_eight arg10.view arg10.view.junk 0 (pF X (i 2) (2 * k.val + 2)) _ ?_ ?_ ?_ ?_ ?_ ?_ ?_ ?_
    · refine Eq.trans ?_ (pOf_eq hu (hzBr 0 0)); rfl
    · refine Eq.trans ?_ (pOf_eq hu (hzBr 0 1)); rfl
    · refine Eq.trans ?_ (pOf_eq hu (hzBr 0 2)); rfl
    · refine Eq.trans ?_ (pOf_eq hu (hzBr 0 3)); rfl
    · refine Eq.trans ?_ (pOf_eq hu (hzBr 1 0)); rfl
    · refine Eq.trans ?_ (pOf_eq hu (hzBr 1 1)); rfl
    · refine Eq.trans ?_ (pOf_eq hu (hzBr 1 2)); rfl
    · refine Eq.trans ?_ (pOf_eq hu (hzBr 1 3)); rfl
end

end Cert.Proof.Sb

end
-- ==== Proof.Loop.lean ====
module

public import proofs.«01_k».proof.Proof.TripOdd
public import proofs.«01_k».proof.Proof.TripEven

/-! The loop over the pairs of groups: its invariant, and one trip from either half of the condition. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

/-- The half of the weight buffer a group is kept in. -/
def par (g : ℕ) : Fin 2 := ⟨g % 2, Nat.mod_lt _ (by decide)⟩

/-- What is folded in before trip `k` of a point with `m` whole groups beyond the first. -/
def done (k m : ℕ) : ℕ := min (2 * k) m

/-- Before trip `k`: the groups before `done k m` are in the carried sums, group `done k m` is pending (its weights stored), and the scores of the
    group after it are stored when there is one. -/
def LoopAt (X : Blocks F) (f3 : Bf F c arg3) (f4 : Bf F c arg4) (f5 : Bf F c arg5) (f6 : Bf F c arg6) (k : ℕ) (acc : Carry F) : sProp 𝕄 :=
  iprop(held c arg3 f3 ∗ held c arg4 f4 ∗ held c arg5 f5 ∗ held c arg6 f6 ∗ ∃ f8, ∃ f9, ∃ f10, held c arg8 f8 ∗ held c arg9 f9 ∗ held c arg10 f10 ∗
    ⌜acc = carryOf X (i 2) (done k ((i 2).val / 4)) ∧ ReadsP arg10.view f10 (par (done k ((i 2).val / 4))) (pF X (i 2) (done k ((i 2).val / 4)))
      ∧ (2 * k + 1 ≤ (i 2).val / 4 → ReadsZ arg9.view f9 (zF X (i 2) (2 * k + 1)))⌝)

theorem loop_step (X : Blocks F) (arg2 v5 : BitVec 32) (v0 : FVec F S64x256 .f32) (v1 : FVec F S1x256 .f32) (v2 : FVec F S64x256 .f32) (v3 : FVec F S1x256 .f32) (v22 v27_0 : BitVec 32) (w1 w2 w3 w4 w5 w6 w7 w8 : FVec F S1x256 .f32) (v28 c2 v29 v34 c0 : BitVec 32)
   (k : Fin (k0_t1_loop i).trips) (acc : Carry F)
   (h2 : arg2 = BitVec.ofNat 32 (i 2).val) (h5 : v5 = Scalar.addi (Scalar.remsi (BitVec.ofNat 32 (i 2).val) 4#32) 1#32)
   (f3 : Bf F c arg3) (f4 : Bf F c arg4) (f5 : Bf F c arg5) (f6 : Bf F c arg6)
   (h3 : arg3.view.read (Elt F) f3 = X.k) (h4 : arg4.view.read (Elt F) f4 = X.q) (h5' : arg5.view.read (Elt F) f5 = X.v) (h6 : arg6.view.read (Elt F) f6 = X.u) :
   LoopAt c i arg3 arg4 arg5 arg6 arg8 arg9 arg10 X f3 f4 f5 f6 k.val acc
     ⊢ wp frame (wpE (defs₀ (F := F)) 𝒱₀ (c : Thread nD τ) none) Set.univ
       (k0_t1_body (F := F) i arg3 harg3 arg4 harg4 arg5 harg5 arg6 harg6 arg7 harg7 arg8 harg8 arg9 harg9 arg10 harg10 arg2 v0 v1 v2 v3 v5 v22 v27_0 w1 w2 w3 w4 w5 w6 w7 w8 v28 c2 v29 v34 c0 k acc) (LoopAt c i arg3 arg4 arg5 arg6 arg8 arg9 arg10 X f3 f4 f5 f6 (k.val + 1)) := by
  have hkt := Nat.lt_of_lt_of_eq k.isLt (trips_eq i)
  have hk : 2 * k.val + 1 ≤ (i 2).val / 4 := by omega
  have hd : done k.val ((i 2).val / 4) = 2 * k.val := by unfold done; omega
  have hp0 : par (2 * k.val) = 0 := by unfold par; ext; simp
  obtain ⟨A0, R0, A1, R1, j, n, s0, s1, s2, s3, s4, s5, s6, s7⟩ := acc
  unfold LoopAt
  iintro ⟨H3, H4, H5, H6, ⟨%f8, %f9, %f10, H8, H9, H10, %hh⟩⟩
  obtain ⟨hcar, hp, hz⟩ := hh
  rw [hd] at hcar hp
  rw [hp0] at hp
  have hz := hz hk
  have hj : j = BitVec.ofNat 32 (newest (i 2).val (2 * k.val)) := by
    simp only [carryOf, Prod.mk.injEq] at hcar; exact hcar.2.2.2.2.1
  have hchk : k0_chk1 i k j := hj ▸ chk1_of i k (i 2) (2 * k.val)
  by_cases hc : k0_cond4 i k = 1#1
  · have hk2 := (cond4_iff i k).mp hc
    have hd' : done (k.val + 1) ((i 2).val / 4) = 2 * k.val + 2 := by unfold done; omega
    have hp2 : par (2 * k.val + 2) = 0 := by unfold par; ext; simp
    rw [hd', hp2]
    iapply (trip_even c i arg3 harg3 arg4 harg4 arg5 harg5 arg6 harg6 arg7 harg7 arg8 harg8 arg9 harg9 arg10 harg10 X arg2 v5 v0 v1 v2 v3 v22 v27_0 w1 w2 w3 w4 w5 w6 w7 w8 v28 c2 v29 v34 c0 k A0 R0 A1 R1 j n s0 s1 s2 s3 s4 s5 s6 s7 h2 h5 hchk hc hk2 f3 f4 f5 f6 f8 f9 f10 h3 h4 h5' h6 hcar hz hp)
    isplitl [H3]; · iexact H3
    isplitl [H4]; · iexact H4
    isplitl [H5]; · iexact H5
    isplitl [H6]; · iexact H6
    isplitl [H8]; · iexact H8
    isplitl [H9]; · iexact H9
    isplitl [H10]; · iexact H10
    iintro %x %f8' %f9' %f10' ⟨H3, H4, H5, H6, H8, H9, H10, %hh⟩
    isplitl [H3]; · iexact H3
    isplitl [H4]; · iexact H4
    isplitl [H5]; · iexact H5
    isplitl [H6]; · iexact H6
    iexists f8', f9', f10'
    isplitl [H8]; · iexact H8
    isplitl [H9]; · iexact H9
    isplitl [H10]; · iexact H10
    ipureintro
    exact ⟨hh.1, hh.2.2, fun _ => hh.2.1⟩
  · have hk2 : ¬ 2 * k.val + 2 ≤ (i 2).val / 4 := fun h => hc ((cond4_iff i k).mpr h)
    have hd' : done (k.val + 1) ((i 2).val / 4) = 2 * k.val + 1 := by unfold done; omega
    have hp2 : par (2 * k.val + 1) = 1 := by unfold par; ext; simp
    rw [hd', hp2]
    iapply (trip_odd c i arg3 harg3 arg4 harg4 arg5 harg5 arg6 harg6 arg7 harg7 arg8 harg8 arg9 harg9 arg10 harg10 X arg2 v5 v0 v1 v2 v3 v22 v27_0 w1 w2 w3 w4 w5 w6 w7 w8 v28 c2 v29 v34 c0 k A0 R0 A1 R1 j n s0 s1 s2 s3 s4 s5 s6 s7 h2 h5 hchk hc hk f3 f4 f5 f6 f8 f9 f10 h3 h4 h5' h6 hcar hz hp)
    isplitl [H3]; · iexact H3
    isplitl [H4]; · iexact H4
    isplitl [H5]; · iexact H5
    isplitl [H6]; · iexact H6
    isplitl [H8]; · iexact H8
    isplitl [H9]; · iexact H9
    isplitl [H10]; · iexact H10
    iintro %x %f8' %f9' %f10' ⟨H3, H4, H5, H6, H8, H9, H10, %hh⟩
    isplitl [H3]; · iexact H3
    isplitl [H4]; · iexact H4
    isplitl [H5]; · iexact H5
    isplitl [H6]; · iexact H6
    iexists f8', f9', f10'
    isplitl [H8]; · iexact H8
    isplitl [H9]; · iexact H9
    isplitl [H10]; · iexact H10
    ipureintro
    exact ⟨hh.1, hh.2, fun h => absurd h (by omega)⟩

end

end Cert.Proof.Sb
-- ==== Proof.Rest.lean ====
module

public import proofs.«01_k».proof.Proof.Loop

/-! The part of a grid point behind the first group: the loop, the last pending group, the stored block. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem outBlk_of {X : Blocks F} {q : Fin 33} {a0 a1 : Acc F} (h0 : a0 = (st X q 0 (q.val / 4 + 1)).1) (h1 : a1 = (st X q 1 (q.val / 4 + 1)).1) :
    shapeCast S1x256x128 (transpose S256x128 [1, 0]
      (concatenate S128x256 0 [⟨S64x256, a0⟩, ⟨S64x256, a1⟩] concatenates_S64x256_S64x256_S128x256_d0)
      transposes_S128x256_p1_0_S256x128) shapeCasts_S256x128_S1x256x128 = outBlk X q := by rw [h0, h1]; rfl

/-- The body behind its first part. -/
def restOf (i : grid0.Coords) (arg3 : Memref sig .tc .vmem S1x1x33x2x256x128 .bf16) (harg3 : arg3.IsWhole) (arg4 : Memref sig .tc .vmem S1x1x1x2x128x256 .bf16) (harg4 : arg4.IsWhole) (arg5 : Memref sig .tc .vmem S1x1x33x128x256 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S8x256x256 .f32) (harg8 : arg8.IsWhole) (arg9 : Memref sig .tc .vmem S8x256x256 .f32) (harg9 : arg9.IsWhole) (arg10 : Memref sig .tc .vmem S2x8x256x256 .bf16) (harg10 : arg10.IsWhole) (x : FirstOut F) :
    Prog (TpuEff nD τ sig (Elt F) Λ₀ .tc) PUnit :=
  match x with
  | ⟨arg2, v0, v1, v2, v3, v5, v22, v27_0, v27_1, v27_2, v27_3, v27_4, v27_5, v27_6, v27_7, v27_8, v28, c2_i32, v29, v34, c0_i32_15⟩ => do
    let ⟨v52_0, v52_1, v52_2, v52_3, v52_4, v52_5, v52_6, v52_7, v52_8, v52_10, v52_11, v52_12, k0_hw3, v53, v62, v67⟩ : Σ' (v52_0 : FVec F S64x256 .f32) (v52_1 : FVec F S1x256 .f32) (v52_2 : FVec F S64x256 .f32) (v52_3 : FVec F S1x256 .f32) (v52_4 : BitVec 32) (v52_5 : BitVec 32) (v52_6 : FVec F S1x256 .f32) (v52_7 : FVec F S1x256 .f32) (v52_8 : FVec F S1x256 .f32) (v52_10 : FVec F S1x256 .f32) (v52_11 : FVec F S1x256 .f32) (v52_12 : FVec F S1x256 .f32) (k0_hw3 : k0_chk3 v52_4) (v53 : BitVec 32) (v62 : FVec F S64x256 .f32), FVec F S64x256 .bf16 ← k0_part106 i arg3 harg3 arg4 harg4 arg5 harg5 arg6 harg6 arg7 harg7 arg8 harg8 arg9 harg9 arg10 harg10 arg2 v0 v1 v2 v3 v5 v22 v27_0 v27_1 v27_2 v27_3 v27_4 v27_5 v27_6 v27_7 v27_8 v28 c2_i32 v29 v34 c0_i32_15
    let ⟨v71, v80, v89, v94, v96⟩ : Σ' (v71 : FVec F S64x256 .f32) (v80 : FVec F S64x256 .f32) (v89 : FVec F S64x256 .f32) (v94 : FVec F S64x256 .bf16), Vec F S1x1x256x256 .bf16 ← k0_part107 i arg3 harg3 arg4 harg4 arg5 harg5 arg6 harg6 arg7 harg7 arg8 harg8 arg9 harg9 arg10 harg10 v52_4 k0_hw3 v53 v67
    let ⟨v98, v107, v116, v125⟩ : Σ' (v98 : FVec F S64x256 .f32) (v107 : FVec F S64x256 .f32) (v116 : FVec F S64x256 .f32), FVec F S64x256 .f32 ← k0_part108 i arg3 harg3 arg4 harg4 arg5 harg5 arg6 harg6 arg7 harg7 arg8 harg8 arg9 harg9 arg10 harg10 v52_4 k0_hw3 v53 v94 v96
    let ⟨v164, v177⟩ : Σ' (v164 : FVec F S64x256 .f32), FVec F S64x256 .f32 ← k0_part109 i arg3 harg3 arg4 harg4 arg5 harg5 arg6 harg6 arg7 harg7 arg8 harg8 arg9 harg9 arg10 harg10 v52_0 v52_1 v52_5 v52_6 v52_7 v52_8 v62 v71 v80 v89
    let ⟨v178, v217, v229⟩ : Σ' (v178 : FVec F S64x256 .f32) (v217 : FVec F S64x256 .f32), FVec F S64x256 .f32 ← k0_part110 i arg3 harg3 arg4 harg4 arg5 harg5 arg6 harg6 arg7 harg7 arg8 harg8 arg9 harg9 arg10 harg10 v52_2 v52_3 v52_5 v52_10 v52_11 v52_12 v98 v107 v116 v164 v177
    let v234 : Vec F S1x256x128 .f32 ← Prog.lift (.load arg7 (Rect.unit (s := S1x256x128) ![0, 0, 0] S1x256x128.size inb_S1x256x128_S1x256x128_0_0_0).toLoadRect (View.loadsAt_vmem h_S1x256x128))
    Prog.lift (.store arg7 (Rect.unit (s := S1x256x128) ![0, 0, 0] S1x256x128.size inb_S1x256x128_S1x256x128_0_0_0) (k0_pay1 v125 v178 v217 v229) Finset.univ (View.stores_vmem_bits_univ h_S1x256x128 rfl) (.inl rfl))
    pure ⟨⟩

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxHeartbeats 8000000 in
/-- From the first group's results to the stored block. -/
theorem rest_run (X : Blocks F) (arg2 v5 : BitVec 32) (v0 : FVec F S64x256 .f32) (v1 : FVec F S1x256 .f32) (v2 : FVec F S64x256 .f32) (v3 : FVec F S1x256 .f32) (v22 v27_0 : BitVec 32) (w1 w2 w3 w4 w5 w6 w7 w8 : FVec F S1x256 .f32) (v28 c2 v29 v34 c0 : BitVec 32)
   (h2 : arg2 = BitVec.ofNat 32 (i 2).val) (h5 : v5 = Scalar.addi (Scalar.remsi (BitVec.ofNat 32 (i 2).val) 4#32) 1#32)
   (hcar : (v0, v1, v2, v3, arg2, v27_0, w1, w2, w3, w4, w5, w6, w7, w8) = carryOf X (i 2) 0)
   (f3 : Bf F c arg3) (f4 : Bf F c arg4) (f5 : Bf F c arg5) (f6 : Bf F c arg6) (f7 : Bf F c arg7) (f8 : Bf F c arg8) (f9 : Bf F c arg9) (f10 : Bf F c arg10)
   (h3 : arg3.view.read (Elt F) f3 = X.k) (h4 : arg4.view.read (Elt F) f4 = X.q) (h5' : arg5.view.read (Elt F) f5 = X.v) (h6 : arg6.view.read (Elt F) f6 = X.u)
   (hz : ReadsZ arg9.view f9 (zF X (i 2) 1)) (hp : ReadsP arg10.view f10 0 (pF X (i 2) 0))
   (Q : PUnit → sProp 𝕄) :
   iprop(held c arg3 f3 ∗ held c arg4 f4 ∗ held c arg5 f5 ∗ held c arg6 f6 ∗ held c arg7 f7 ∗ held c arg8 f8 ∗ held c arg9 f9 ∗ held c arg10 f10 ∗
      (∀ f7' f8' f9' f10', iprop(held c arg3 f3 ∗ held c arg4 f4 ∗ held c arg5 f5 ∗ held c arg6 f6 ∗ held c arg7 f7' ∗ held c arg8 f8' ∗ held c arg9 f9' ∗ held c arg10 f10' ∗
        ⌜arg7.view.read (Elt F) f7' = outBlk X (i 2)⌝) -∗ Q ⟨⟩))
     ⊢ wp frame (wpE (defs₀ (F := F)) 𝒱₀ (c : Thread nD τ) none) Set.univ
       (restOf (F := F) i arg3 harg3 arg4 harg4 arg5 harg5 arg6 harg6 arg7 harg7 arg8 harg8 arg9 harg9 arg10 harg10 ⟨arg2, v0, v1, v2, v3, v5, v22, v27_0, w1, w2, w3, w4, w5, w6, w7, w8, v28, c2, v29, v34, c0⟩) Q := by
  iintro ⟨H3, H4, H5, H6, H7, H8, H9, H10, Hk⟩
  let L : LoopInvTy_k0_t1 (F := F) Unit ℕ (UR sig nD τ) ℕ 𝒱₀ c none Set.univ i arg3 harg3 arg4 harg4 arg5 harg5 arg6 harg6 arg7 harg7 arg8 harg8 arg9 harg9 arg10 harg10 arg2 v0 v1 v2 v3 v5 v22 v27_0 w1 w2 w3 w4 w5 w6 w7 w8 v28 c2 v29 v34 c0 (v0, v1, v2, v3, arg2, v27_0, w1, w2, w3, w4, w5, w6, w7, w8) :=
    ⟨fun k acc => LoopAt c i arg3 arg4 arg5 arg6 arg8 arg9 arg10 X f3 f4 f5 f6 k acc,
     fun k acc => loop_step c i arg3 harg3 arg4 harg4 arg5 harg5 arg6 harg6 arg7 harg7 arg8 harg8 arg9 harg9 arg10 harg10 X arg2 v5 v0 v1 v2 v3 v22 v27_0 w1 w2 w3 w4 w5 w6 w7 w8 v28 c2 v29 v34 c0 k acc h2 h5 f3 f4 f5 f6 h3 h4 h5' h6⟩
  have htr : (k0_t2_loop i).trips = 0 := trips2_eq i
  have h0 : (v0, v1, v2, v3, arg2, v27_0, w1, w2, w3, w4, w5, w6, w7, w8) = carryOf X (i 2) (done 0 ((i 2).val / 4))
      ∧ ReadsP arg10.view f10 (par (done 0 ((i 2).val / 4))) (pF X (i 2) (done 0 ((i 2).val / 4)))
      ∧ (2 * 0 + 1 ≤ (i 2).val / 4 → ReadsZ arg9.view f9 (zF X (i 2) (2 * 0 + 1))) := by
    rw [show done 0 ((i 2).val / 4) = 0 by unfold done; omega]
    exact ⟨hcar, hp, fun _ => hz⟩
  sl_unfold [restOf]
  sl_exec_parts!
  rename_i acc
  have hd : done (Scf.trips (k0_t1_loop i).lb (k0_t1_loop i).ub (k0_t1_loop i).st) ((i 2).val / 4) = (i 2).val / 4 := by
    have := trips_eq i
    unfold done
    rw [show Scf.trips (k0_t1_loop i).lb (k0_t1_loop i).ub (k0_t1_loop i).st = (k0_t1_loop i).trips from rfl, this]; omega
  rw [hd] at hL7
  have hcr := hL7.1
  have hpr := hL7.2.1
  have hj : acc.2.2.2.2.1 = BitVec.ofNat 32 (newest (i 2).val ((i 2).val / 4)) := congrArg (fun x : Carry F => x.2.2.2.2.1) hcr
  have hchk : k0_chk3 acc.2.2.2.2.1 := hj ▸ chk3_of (i 2) ((i 2).val / 4)
  sl_exec_parts!
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  have hv0 := fun r => readAt_v h5' (tile (i 2) ((i 2).val / 4) r) 0 (k0_off33_inb _ hchk r) (by rw [hj]; exact off33_eq (i 2) _ r)
  have hv1 := fun r => readAt_v h5' (tile (i 2) ((i 2).val / 4) r) 1 (k0_off38_inb _ hchk r) (by rw [hj]; exact off38_eq (i 2) _ r)
  have hp0 : ∀ k, (![arg10.view.readAt (Elt F) (Rect.unit (s := S2x8x256x256) (k0_off34 i) S1x1x256x256.size (k0_off34_inb i)).toLoadRect f10L2, arg10.view.readAt (Elt F) (Rect.unit (s := S2x8x256x256) (k0_off35 i) S1x1x256x256.size (k0_off35_inb i)).toLoadRect f10L2, arg10.view.readAt (Elt F) (Rect.unit (s := S2x8x256x256) (k0_off36 i) S1x1x256x256.size (k0_off36_inb i)).toLoadRect f10L2, arg10.view.readAt (Elt F) (Rect.unit (s := S2x8x256x256) (k0_off37 i) S1x1x256x256.size (k0_off37_inb i)).toLoadRect f10L2] : Fin 4 → PB F) k = pF X (i 2) ((i 2).val / 4) 0 k := by
    intro k; fin_cases k
    · exact readAt_p hpr 0 0 (k0_off34_inb i) (off34_eq i)
    · exact readAt_p hpr 0 1 (k0_off35_inb i) (off35_eq i)
    · exact readAt_p hpr 0 2 (k0_off36_inb i) (off36_eq i)
    · exact readAt_p hpr 0 3 (k0_off37_inb i) (off37_eq i)
  have hp1 : ∀ k, (![arg10.view.readAt (Elt F) (Rect.unit (s := S2x8x256x256) (k0_off39 i) S1x1x256x256.size (k0_off39_inb i)).toLoadRect f10L2, arg10.view.readAt (Elt F) (Rect.unit (s := S2x8x256x256) (k0_off40 i) S1x1x256x256.size (k0_off40_inb i)).toLoadRect f10L2, arg10.view.readAt (Elt F) (Rect.unit (s := S2x8x256x256) (k0_off41 i) S1x1x256x256.size (k0_off41_inb i)).toLoadRect f10L2, arg10.view.readAt (Elt F) (Rect.unit (s := S2x8x256x256) (k0_off42 i) S1x1x256x256.size (k0_off42_inb i)).toLoadRect f10L2] : Fin 4 → PB F) k = pF X (i 2) ((i 2).val / 4) 1 k := by
    intro k; fin_cases k
    · exact readAt_p hpr 1 0 (k0_off39_inb i) (off39_eq i)
    · exact readAt_p hpr 1 1 (k0_off40_inb i) (off40_eq i)
    · exact readAt_p hpr 1 2 (k0_off41_inb i) (off41_eq i)
    · exact readAt_p hpr 1 3 (k0_off42_inb i) (off42_eq i)
  refine Eq.trans (View.read_writes_full arg7.view arg7.view.junk inb_S1x256x128_S1x256x128_0_0_0 _ []) ?_
  refine Eq.trans ?_ (outBlk_of (foldAcc_st (congrArg (fun x : Carry F => x.2.2.2.2.2.1) hcr) (congrArg (fun x : Carry F => x.1) hcr) (congrArg (fun x : Carry F => x.2.1) hcr) (congrArg (fun x : Carry F => x.2.2.2.2.2.2.1) hcr) (congrArg (fun x : Carry F => x.2.2.2.2.2.2.2.1) hcr) (congrArg (fun x : Carry F => x.2.2.2.2.2.2.2.2.1) hcr) (congrArg (fun x : Carry F => x.2.2.2.2.2.2.2.2.2.1) hcr) hv0 hp0)
    (foldAcc_st (congrArg (fun x : Carry F => x.2.2.2.2.2.1) hcr) (congrArg (fun x : Carry F => x.2.2.1) hcr) (congrArg (fun x : Carry F => x.2.2.2.1) hcr) (congrArg (fun x : Carry F => x.2.2.2.2.2.2.2.2.2.2.1) hcr) (congrArg (fun x : Carry F => x.2.2.2.2.2.2.2.2.2.2.2.1) hcr) (congrArg (fun x : Carry F => x.2.2.2.2.2.2.2.2.2.2.2.2.1) hcr) (congrArg (fun x : Carry F => x.2.2.2.2.2.2.2.2.2.2.2.2.2) hcr) hv1 hp1))
  rfl

end

end Cert.Proof.Sb
-- ==== Proof.Body.lean ====
module

public import proofs.«01_k».proof.Proof.First1
public import proofs.«01_k».proof.Proof.First2
public import proofs.«01_k».proof.Proof.First3
public import proofs.«01_k».proof.Proof.First4
public import proofs.«01_k».proof.Proof.Rest

/-! The whole body at a grid point: it leaves the block `outBlk` in the result's buffer. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem carry_zero (X : Blocks F) (q : Fin 33) :
    (zeroAcc, zeroRow, zeroAcc, zeroRow, BitVec.ofNat 32 q.val, BitVec.ofNat 32 (live q.val 0),
      csF X q 0 0 0, csF X q 0 0 1, csF X q 0 0 2, csF X q 0 0 3, csF X q 0 1 0, csF X q 0 1 1, csF X q 0 1 2, csF X q 0 1 3) = carryOf X q 0 := by
  unfold carryOf
  rw [show newest q.val 0 = q.val from if_pos rfl]
  rfl

section
variable (c : Dev nD) (i : grid0.Coords)
  (arg3 : Memref sig .tc .vmem S1x1x33x2x256x128 .bf16) (harg3 : arg3.IsWhole)
  (arg4 : Memref sig .tc .vmem S1x1x1x2x128x256 .bf16) (harg4 : arg4.IsWhole)
  (arg5 : Memref sig .tc .vmem S1x1x33x128x256 .bf16) (harg5 : arg5.IsWhole)
  (arg6 : Memref sig .tc .vmem S256x256 .bf16) (harg6 : arg6.IsWhole)
  (arg7 : Memref sig .tc .vmem S1x256x128 .f32) (harg7 : arg7.IsWhole)
  (arg8 : Memref sig .tc .vmem S8x256x256 .f32) (harg8 : arg8.IsWhole)
  (arg9 : Memref sig .tc .vmem S8x256x256 .f32) (harg9 : arg9.IsWhole)
  (arg10 : Memref sig .tc .vmem S2x8x256x256 .bf16) (harg10 : arg10.IsWhole)

set_option maxRecDepth 65536 in
theorem body_eq : cc0_sb_prompt (F := F) i arg3 harg3 arg4 harg4 arg5 harg5 arg6 harg6 arg7 harg7 arg8 harg8 arg9 harg9 arg10 harg10 = (k0_part105 (F := F) i arg3 harg3 arg4 harg4 arg5 harg5 arg6 harg6 arg7 harg7 arg8 harg8 arg9 harg9 arg10 harg10 >>= restOf (F := F) i arg3 harg3 arg4 harg4 arg5 harg5 arg6 harg6 arg7 harg7 arg8 harg8 arg9 harg9 arg10 harg10) := rfl

attribute [local irreducible] k0_part105 restOf cc0_sb_prompt

/-- The first group, whichever of its four sizes it has. -/
theorem first_run (X : Blocks F)
   (f3 : Bf F c arg3) (f4 : Bf F c arg4) (f6 : Bf F c arg6) (f8 : Bf F c arg8) (f9 : Bf F c arg9) (f10 : Bf F c arg10)
   (h3 : arg3.view.read (Elt F) f3 = X.k) (h4 : arg4.view.read (Elt F) f4 = X.q) (h6 : arg6.view.read (Elt F) f6 = X.u)
   (Q : FirstOut F → sProp 𝕄) :
   iprop(held c arg3 f3 ∗ held c arg4 f4 ∗ held c arg6 f6 ∗ held c arg8 f8 ∗ held c arg9 f9 ∗ held c arg10 f10 ∗
      (∀ x f8' f9' f10', iprop(held c arg3 f3 ∗ held c arg4 f4 ∗ held c arg6 f6 ∗ held c arg8 f8' ∗ held c arg9 f9' ∗ held c arg10 f10' ∗
        ⌜IsFirst X (i 2) x ∧ ReadsZ arg9.view f9' (zF X (i 2) 1) ∧ ReadsP arg10.view f10' 0 (pF X (i 2) 0)⌝) -∗ Q x))
     ⊢ wp frame (wpE (defs₀ (F := F)) 𝒱₀ (c : Thread nD τ) none) Set.univ
       (k0_part105 (F := F) i arg3 harg3 arg4 harg4 arg5 harg5 arg6 harg6 arg7 harg7 arg8 harg8 arg9 harg9 arg10 harg10) Q := by
  by_cases q0 : (i 2).val % 4 = 0
  · have hc : ¬ k0_cond1 i = 1#1 := fun h => (cond1_iff i).mp h q0
    exact first1 c i arg3 harg3 arg4 harg4 arg5 harg5 arg6 harg6 arg7 harg7 arg8 harg8 arg9 harg9 arg10 harg10 X q0 hc f3 f4 f6 f8 f9 f10 h3 h4 h6 Q
  have hc : k0_cond1 i = 1#1 := (cond1_iff i).mpr q0
  by_cases q1 : (i 2).val % 4 = 1
  · have hc2 : ¬ k0_cond2 i = 1#1 := fun h => (cond2_iff i q0).mp h q1
    exact first2 c i arg3 harg3 arg4 harg4 arg5 harg5 arg6 harg6 arg7 harg7 arg8 harg8 arg9 harg9 arg10 harg10 X q1 hc hc2 f3 f4 f6 f8 f9 f10 h3 h4 h6 Q
  have hc2 : k0_cond2 i = 1#1 := (cond2_iff i q0).mpr q1
  by_cases q3 : (i 2).val % 4 = 3
  · have hc3 : k0_cond3 i = 1#1 := (cond3_iff i q0 q1).mpr q3
    exact first4 c i arg3 harg3 arg4 harg4 arg5 harg5 arg6 harg6 arg7 harg7 arg8 harg8 arg9 harg9 arg10 harg10 X q3 hc hc2 hc3 f3 f4 f6 f8 f9 f10 h3 h4 h6 Q
  have hc3 : ¬ k0_cond3 i = 1#1 := fun h => q3 ((cond3_iff i q0 q1).mp h)
  have q2 : (i 2).val % 4 = 2 := by omega
  exact first3 c i arg3 harg3 arg4 harg4 arg5 harg5 arg6 harg6 arg7 harg7 arg8 harg8 arg9 harg9 arg10 harg10 X q2 hc hc2 hc3 f3 f4 f6 f8 f9 f10 h3 h4 h6 Q

/-- THE BODY: from the operands' blocks it leaves `outBlk` in the result's buffer; the scratch buffers end at anything. -/
theorem body_run (X : Blocks F)
   (f3 : Bf F c arg3) (f4 : Bf F c arg4) (f5 : Bf F c arg5) (f6 : Bf F c arg6) (f7 : Bf F c arg7) (f8 : Bf F c arg8) (f9 : Bf F c arg9) (f10 : Bf F c arg10)
   (h3 : arg3.view.read (Elt F) f3 = X.k) (h4 : arg4.view.read (Elt F) f4 = X.q) (h5 : arg5.view.read (Elt F) f5 = X.v) (h6 : arg6.view.read (Elt F) f6 = X.u)
   (Q : PUnit → sProp 𝕄) :
   iprop(held c arg3 f3 ∗ held c arg4 f4 ∗ held c arg5 f5 ∗ held c arg6 f6 ∗ held c arg7 f7 ∗ held c arg8 f8 ∗ held c arg9 f9 ∗ held c arg10 f10 ∗
      (∀ f7' f8' f9' f10', iprop(held c arg3 f3 ∗ held c arg4 f4 ∗ held c arg5 f5 ∗ held c arg6 f6 ∗ held c arg7 f7' ∗ held c arg8 f8' ∗ held c arg9 f9' ∗ held c arg10 f10' ∗
        ⌜arg7.view.read (Elt F) f7' = outBlk X (i 2)⌝) -∗ Q ⟨⟩))
     ⊢ wp frame (wpE (defs₀ (F := F)) 𝒱₀ (c : Thread nD τ) none) Set.univ
       (cc0_sb_prompt (F := F) i arg3 harg3 arg4 harg4 arg5 harg5 arg6 harg6 arg7 harg7 arg8 harg8 arg9 harg9 arg10 harg10) Q := by
  have T := first_run c i arg3 harg3 arg4 harg4 arg5 harg5 arg6 harg6 arg7 harg7 arg8 harg8 arg9 harg9 arg10 harg10 X f3 f4 f6 f8 f9 f10 h3 h4 h6
    (fun x => wp frame (wpE (defs₀ (F := F)) 𝒱₀ (c : Thread nD τ) none) Set.univ (restOf (F := F) i arg3 harg3 arg4 harg4 arg5 harg5 arg6 harg6 arg7 harg7 arg8 harg8 arg9 harg9 arg10 harg10 x) Q)
  rw [body_eq, wp_bind]
  refine BIBase.Entails.trans ?_ T
  clear T
  iintro ⟨H3, H4, H5, H6, H7, H8, H9, H10, Hk⟩
  isplitl [H3]; · iexact H3
  isplitl [H4]; · iexact H4
  isplitl [H6]; · iexact H6
  isplitl [H8]; · iexact H8
  isplitl [H9]; · iexact H9
  isplitl [H10]; · iexact H10
  iintro %x %f8' %f9' %f10' ⟨H3, H4, H6, H8, H9, H10, %hh⟩
  obtain ⟨⟨v5, v22, v28, c2, v29, v34, c0, h5v, rfl⟩, hz, hp⟩ := hh
  iapply (rest_run c i arg3 harg3 arg4 harg4 arg5 harg5 arg6 harg6 arg7 harg7 arg8 harg8 arg9 harg9 arg10 harg10 X _ v5 _ _ _ _ v22 _ _ _ _ _ _ _ _ _ v28 c2 v29 v34 c0 rfl h5v (carry_zero X (i 2)) f3 f4 f5 f6 f7 f8' f9' f10' h3 h4 h5 h6 hz hp)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hk

end

end Cert.Proof.Sb
-- ==== Proof.Run.lean ====
module

public import proofs.«01_k».proof.Proof.Body
public import proofs.«01_k».proof.Proof.Gen.KernelIdeal.Frame
public import proofs.«01_k».proof.Proof.Gen.KernelIdeal.Points

/-! The run of the whole program: the proof data of the pipeline, the body at each grid point, the frame. -/

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] k0_part105 restOf cc0_sb_prompt

/-- The operands' blocks at grid point `t`. -/
def blocksAt (c : Dev nD) (t : Fin cfg0.N) : Blocks F := ⟨iblk m c 0 t, iblk m c 1 t, iblk m c 2 t, iblk m c 3 t⟩

/-- What grid point `t` leaves in the result's buffer. -/
def outAt (c : Dev nD) (t : Fin cfg0.N) : FVec F S1x256x128 .f32 := outBlk (blocksAt m c t) (grid0.coords t 2)

/-- The proof data: the arrays as the region finds them; after the body each input's buffer at its block and the result's at `outAt`;
    the invariant the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scoped buffers the pipeline does not stage: the three scratch buffers. -/
theorem scopedRest_eq (c : Dev nD) : (Pipeline.scopedRest (Ix := Unit) (Name := ℕ) (U := UR sig nD τ) (Lvl := ℕ) (Val := Elt F) spec0 c : sProp 𝕄)
    = iprop((∃ f, held c (Memref.whole cc0_scratch0) f) ∗ (∃ f, held c (Memref.whole cc0_scratch1) f) ∗ (∃ f, held c (Memref.whole cc0_scratch2) f)) := by
  unfold Pipeline.scopedRest
  rw [show (Finset.univ.filter fun b : Ref sig .tc => b.isScoped) \ Finset.univ.image (Pipeline.stageRef spec0)
      = {cc0_scratch0, cc0_scratch1, cc0_scratch2} from by decide,
    bigSep_insert (by decide), bigSep_insert (by decide), bigSep_singleton]
  simp only [held, Memref.whole, View.set_whole]
  rfl

set_option maxHeartbeats 4000000 in
/-- The body at every grid point does what the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = Pipeline.ΦA spec0 c from rfl]
  unfold outAt Pipeline.ΦA owns
  rw [scopedRest_eq]
  iintro ⟨⟨⟨⟨%f8, H8⟩, ⟨%f9, H9⟩, ⟨%f10, H10⟩⟩, Hr⟩, Ho, ⟨%d0, %f3, %h3, H3⟩, ⟨%d1, %f4, %h4, H4⟩, ⟨%d2, %f5, %h5, H5⟩, ⟨%d3, %f6, %h6, H6⟩, ⟨%d4, %f7, -, H7⟩⟩
  iapply (body_run c (grid0.coords t) _ _ _ _ _ _ _ _ _ _ _ _ _ _ _ _ (blocksAt m c t) f3 f4 f5 f6 f7 f8 f9 f10 h3 h4 h5 h6)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %f7' %f8' %f9' %f10' ⟨H3, H4, H5, H6, H7, H8, H9, H10, %h7⟩
  isplitl [H8 H9 H10 Hr]
  · isplitr [Hr]
    · isplitl [H8]; · iexists _; iexact H8
      isplitl [H9]; · iexists _; iexact H9
      iexists _; iexact H10
    · iexact Hr
  isplitl [Ho]; · iexact Ho
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  iexists _; isplitr; · ipureintro; exact h7
  iexact H7

set_option backward.isDefEq.respectTransparency.types false in
/-- From any memory with zero counters every weakly fair execution of @main on the TensorCores terminates, each array of the pipeline
    ends at what the proof data give, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The argument arrays end as they were. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.Sb

end
-- ==== Proof.Entry.lean ====
module

public import proofs.«01_k».proof.Proof.Model
public import Idealize.ShloMosaic.Lib.Pointwise

/-! The kernel's vector operations read at an index, over the extended reals. -/

@[expose] public section

set_option maxRecDepth 16384

noncomputable section

namespace Cert.Proof.Sb

open Cert.KernelIdeal Cert.KernelIdeal.Gen
open Idealize.ShloMosaic

/-- The base-two logarithm of e. -/
abbrev lg : EReal := (((Real.log 2)⁻¹ : ℝ) : EReal)

/-- The softplus in base two, of one number. -/
def sp2 (x : EReal) : EReal := max x 0 + Ideal.log (1 + Ideal.exp2 (0 - max x (-x))) * lg

theorem zeroSq_apply (i : S256x256.Idx) : (zeroSq : Sq Ideal) i = 0 := by
  pointwise [zeroSq]

theorem soft_apply (z : Sq Ideal) (i : S256x256.Idx) : soft z i = sp2 (z i) := by
  have h : Named.named (F := Ideal) Cert.KernelIdeal.κ "log2e" (φ := .f32) 0x3FB8AA3B#32 = lg :=
    IdealRules.named_const.ideal_named_scalar _ _ _ _ rfl
  pointwise [soft, zeroSq, sp2]
  rw [h]
  rfl

theorem cum_apply (u : FVec Ideal S256x256 .bf16) (s : Sq Ideal) (j i : Fin 256) :
    cum u s (ix2 j i) = ∑ e : Fin 256, u (ix2 j e) * s (ix2 e i) := by
  pointwise [cum]

theorem wt_apply (z c : Sq Ideal) (i : S256x256.Idx) : wt z c i = Ideal.exp2 (z i - c i) := by
  pointwise [wt]
  rfl

theorem sq_apply (z : ZB Ideal) (j i : Fin 256) : sq z (ix2 j i) = z (ix3 0 j i) := by
  pointwise [sq]

theorem row0_apply (c : Sq Ideal) (i : Fin 256) : row0 c (ix2 0 i) = c (ix2 0 i) := by
  pointwise [row0]

theorem pv_apply (vb : VB Ideal) (p : Sq Ideal) (d : Fin 64) (i : Fin 256) :
    pv vb (pack p) (ix2 d i) = ∑ e : Fin 256, vb (ix5 0 0 0 d e) * p (ix2 e i) := by
  pointwise [pv, pack]

theorem before_apply (j i : Fin 256) : before (ix2 j i) = if j < i then 1#1 else 0#1 := by
  pointwise [before]
  rw [IntOp.cmpi]
  have hj := j.isLt; have hi := i.isLt
  have e : (BitVec.ofNat 32 j.val).slt (BitVec.ofNat 32 i.val) = decide (j < i) := by
    rw [BitVec.slt_eq_decide, BitVec.toInt_eq_toNat_of_lt (by simp; omega), BitVec.toInt_eq_toNat_of_lt (by simp; omega)]
    simp only [BitVec.toNat_ofNat, Nat.mod_eq_of_lt (show j.val < 2 ^ 32 by omega), Nat.mod_eq_of_lt (show i.val < 2 ^ 32 by omega), Fin.lt_def, Int.ofNat_lt]
  simp only [e]
  by_cases h : j < i <;> simp [h]

theorem score_apply (kb : KB Ideal) (qb : QB Ideal) (j i : Fin 256) :
    score kb qb (ix3 0 j i) = ∑ e : Fin 128, kb (ix6 0 0 0 0 j e) * qb (ix6 0 0 0 0 e i) := by
  pointwise [score]

theorem kBlk_apply (X : Blocks Ideal) (t : Fin 33) (hh : Fin 2) (j : Fin 256) (e : Fin 128) :
    kBlk X t hh (ix6 0 0 0 0 j e) = X.k (ix6 0 0 t hh j e) := by
  unfold kBlk VecWindow.window
  congr 1
  funext a; apply Fin.ext
  fin_cases a <;> simp [kOff, ix6] <;> first | rfl | (show 0 + 1 * _ = _; omega) | (show 64 * hh.val + 1 * _ = _; omega)

theorem qBlk_apply (X : Blocks Ideal) (hh : Fin 2) (e : Fin 128) (i : Fin 256) :
    qBlk X hh (ix6 0 0 0 0 e i) = X.q (ix6 0 0 0 hh e i) := by
  unfold qBlk VecWindow.window
  congr 1
  funext a; apply Fin.ext
  fin_cases a <;> simp [qOff, ix6] <;> first | rfl | (show 0 + 1 * _ = _; omega) | (show 64 * hh.val + 1 * _ = _; omega)

theorem vBlk_apply (X : Blocks Ideal) (t : Fin 33) (hh : Fin 2) (d : Fin 64) (e : Fin 256) :
    vBlk X t hh (ix5 0 0 0 d e) = X.v (ix5 0 0 t ⟨64 * hh.val + d.val, by omega⟩ e) := by
  unfold vBlk VecWindow.window
  congr 1
  funext a; apply Fin.ext
  fin_cases a <;> simp [vOff, ix5] <;> first | rfl | (show 0 + 1 * _ = _; omega) | (show 64 * hh.val + 1 * _ = _; omega)

theorem accStep_apply (n k : BitVec 32) (a : Acc Ideal) (r : Row Ideal) (o : Acc Ideal) (d : Fin 64) (i : Fin 256) :
    accStep n k a r o (ix2 d i) = a (ix2 d i) + liveF n k * Ideal.exp2 (0 - r (ix2 0 i)) * o (ix2 d i) := by
  pointwise [accStep, zeroRow]
  rfl

theorem rowStep_apply (n k : BitVec 32) (r c : Row Ideal) (i : Fin 256) :
    rowStep n k r c (ix2 0 i) = r (ix2 0 i) + liveF n k * c (ix2 0 i) := by
  pointwise [rowStep]

theorem liveF_eq (n : ℕ) (k : Fin 4) (h : n ≤ 4) : liveF (F := Ideal) (BitVec.ofNat 32 n) (BitVec.ofNat 32 k.val) = if k.val < n then (1 : EReal) else 0 := by
  have : n < 5 := by omega
  interval_cases n <;> fin_cases k <;> simp [liveF, Scalar.cmpi, IntOp.cmpi, Scalar.extui]

theorem outBlk_apply (X : Blocks Ideal) (q : Fin 33) (i : Fin 256) (hh : Fin 2) (d : Fin 64) :
    outBlk X q (ix3 0 i ⟨64 * hh.val + d.val, by omega⟩) = (st X q hh (q.val / 4 + 1)).1 (ix2 d i) := by
  pointwise [outBlk]
  fin_cases hh <;> simp

end Cert.Proof.Sb

end
-- ==== Proof.HostTab.lean ====
module

public import proofs.«01_k».proof.Proof.Entry
public import proofs.«01_k».proof.Proof.Gen.KernelIdeal.Frame
public import Idealize.ShloMosaic.Lib.Claim

/-! The host's table of the bias: for each head, the lane where its bias stands against a one of the keys. -/

@[expose] public section

set_option maxRecDepth 16384

noncomputable section

namespace Cert.Proof.Sb

open Cert.KernelIdeal Cert.KernelIdeal.Gen
open Idealize.ShloMosaic
open Idealize.ShloMosaic.TcCoe

variable (m : (ℓ : Loc nD τ sig) → Buf (Elt Ideal) ℓ)

/-! The buffers after each stretch of the host line. -/

def Wx (c : Dev nD) : Valuation τ sig (Elt Ideal) := StableHlo.after (hostOps0.take 6) (fun b => m (c, b))
def Wy (c : Dev nD) : Valuation τ sig (Elt Ideal) := StableHlo.after ((hostOps0.drop 6).take 9) (Wx m c)
def Wz (c : Dev nD) : Valuation τ sig (Elt Ideal) := StableHlo.after ((hostOps0.drop 15).take 6) (Wy m c)
def Wa (c : Dev nD) : Valuation τ sig (Elt Ideal) := StableHlo.after (hostOps0.drop 21) (Wz m c)
def Wb (c : Dev nD) : Valuation τ sig (Elt Ideal) := StableHlo.after hostOps0_1 (Wa m c)
def Wc (c : Dev nD) : Valuation τ sig (Elt Ideal) := StableHlo.after hostOps0_4 (StableHlo.after hostOps0_3 (StableHlo.after hostOps0_2 (Wb m c)))
def Wd (c : Dev nD) : Valuation τ sig (Elt Ideal) := StableHlo.after hostOps0_5 (Wc m c)
def We (c : Dev nD) : Valuation τ sig (Elt Ideal) := StableHlo.after hostOps0_6 (Wd m c)
def Wf (c : Dev nD) : Valuation τ sig (Elt Ideal) := StableHlo.after hostOps0_8 (StableHlo.after hostOps0_7 (We m c))
def Wg (c : Dev nD) : Valuation τ sig (Elt Ideal) := StableHlo.after hostOps0_9 (Wf m c)
def Wh (c : Dev nD) : Valuation τ sig (Elt Ideal) := StableHlo.after hostOps0_13 (StableHlo.after hostOps0_12 (StableHlo.after hostOps0_11 (StableHlo.after hostOps0_10 (Wg m c))))
def Wi (c : Dev nD) : Valuation τ sig (Elt Ideal) := StableHlo.after hostOps0_17 (StableHlo.after hostOps0_16 (StableHlo.after hostOps0_15 (StableHlo.after hostOps0_14 (Wh m c))))

theorem V_eq (c : Dev nD) (b : Ref sig .tc) : V m c b = Wi m c b := rfl

attribute [local irreducible] Wx Wy Wz Wa Wb Wc Wd We Wf Wg Wh Wi

theorem x_log2e (c : Dev nD) : (Wx m c main_v1 : FVec Ideal S_ .f32) ix0 = lg := by
  have h2 : Ideal.ofBits .f32 0x40000000#32 = ((2 : ℝ) : EReal) := by simp [Ideal.ofBits, Ideal.ieee, -EReal.coe_mul]; norm_num
  unfold Wx
  simp only [hostOps0, List.take_succ_cons, List.take_zero, List.drop_succ_cons, List.drop_zero]
  entry_read
  pointwise
  rw [h2]
  have h3 : Ideal.log ((2 : ℝ) : EReal) = ((Real.log 2 : ℝ) : EReal) := by
    show (if (2 : ℝ) ≤ 0 then ⊥ else ((Real.log 2 : ℝ) : EReal)) = _
    rw [if_neg (by norm_num)]
  have h4 : ((Real.log 2 : ℝ) : EReal) ≠ 0 := by
    rw [← EReal.coe_zero]; intro h; exact (Real.log_pos (by norm_num : (1 : ℝ) < 2)).ne' (EReal.coe_eq_coe_iff.1 h)
  rw [h3, Ideal.div, if_neg h4, one_mul, ← EReal.coe_inv]

/-- The bias of a head. -/
def biasAt (c : Dev nD) (h : Fin 16) : EReal := (m ((c : Thread nD τ).loc main_arg3) : FVec Ideal S16 .f32) (ix1 h)

/-- The bias of a head, in units of the logarithm to base 2. -/
def bias2At (c : Dev nD) (h : Fin 16) : EReal := (Wx m c main_v3 : FVec Ideal S16 .f32) (ix1 h)

theorem x_bias (c : Dev nD) (h : Fin 16) : bias2At m c h = biasAt m c h * lg := by
  rw [← x_log2e m c]
  unfold bias2At biasAt Wx
  simp only [hostOps0, List.take_succ_cons, List.take_zero, List.drop_succ_cons, List.drop_zero]
  entry_read
  pointwise

theorem y_parts (c : Dev nD) (h : Fin 16) :
    (Wy m c main_v4 : FVec Ideal S16 .bf16) (ix1 h) = bias2At m c h
    ∧ (Wy m c main_v7 : FVec Ideal S16 .bf16) (ix1 h) = bias2At m c h - bias2At m c h
    ∧ (Wy m c main_v12 : FVec Ideal S16 .bf16) (ix1 h) = bias2At m c h - bias2At m c h - (bias2At m c h - bias2At m c h) := by
  unfold Wy bias2At
  simp only [hostOps0, List.take_succ_cons, List.take_zero, List.drop_succ_cons, List.drop_zero]
  refine ⟨?_, ?_, ?_⟩ <;> · entry_read; pointwise; try rfl

theorem z_parts (c : Dev nD) (h : Fin 16) :
    (Wz m c main_v16 : FVec Ideal S16x1 .f32) (ix2 h 0) = (Wy m c main_v4 : FVec Ideal S16 .bf16) (ix1 h)
    ∧ (Wz m c main_v17 : FVec Ideal S16x1 .f32) (ix2 h 0) = (Wy m c main_v7 : FVec Ideal S16 .bf16) (ix1 h)
    ∧ (Wz m c main_v18 : FVec Ideal S16x1 .f32) (ix2 h 0) = (Wy m c main_v12 : FVec Ideal S16 .bf16) (ix1 h) := by
  unfold Wz
  simp only [hostOps0, List.take_succ_cons, List.take_zero, List.drop_succ_cons, List.drop_zero]
  refine ⟨?_, ?_, ?_⟩ <;> · entry_read; pointwise; try rfl

theorem cat3 (x y z : FVec Ideal S16x1 .f32) (h : Fin 16) (j : Fin 3) :
    (concatenate S16x3 1 [⟨S16x1, x⟩, ⟨S16x1, y⟩, ⟨S16x1, z⟩] concatenates_S16x1_S16x1_S16x1_S16x3_d1 : FVec Ideal S16x3 .f32) (ix2 h j)
      = if j = 0 then x (ix2 h 0) else if j = 1 then y (ix2 h 0) else z (ix2 h 0) := by
  fin_cases j
  · pointwise; try rfl
  · pointwise; try rfl
  · pointwise; try rfl

theorem a_cat (c : Dev nD) : (Wa m c main_v19 : FVec Ideal S16x3 .f32)
    = concatenate S16x3 1 [⟨S16x1, (Wz m c main_v16 : FVec Ideal S16x1 .f32)⟩, ⟨S16x1, (Wz m c main_v17 : FVec Ideal S16x1 .f32)⟩,
        ⟨S16x1, (Wz m c main_v18 : FVec Ideal S16x1 .f32)⟩] concatenates_S16x1_S16x1_S16x1_S16x3_d1 := by
  unfold Wa
  simp only [hostOps0, List.take_succ_cons, List.take_zero, List.drop_succ_cons, List.drop_zero]
  entry_read
  rfl

theorem a_misc (c : Dev nD) (h : Fin 16) : (Wa m c main_c : IVec S_ 32) ix0 = 2#32 ∧ (Wa m c main_v20 : IVec S16 32) (ix1 h) = BitVec.ofNat 32 h.val := by
  unfold Wa
  simp only [hostOps0, List.take_succ_cons, List.take_zero, List.drop_succ_cons, List.drop_zero]
  refine ⟨?_, ?_⟩ <;> · entry_read; pointwise

/-- The three parts of the bias: the first is all of it. -/
theorem parts_eq (c : Dev nD) (h : Fin 16) (r : ℝ) (hr : biasAt m c h = (r : EReal)) (j : Fin 3) :
    (Wa m c main_v19 : FVec Ideal S16x3 .f32) (ix2 h j) = if j = 0 then (r : EReal) * lg else 0 := by
  have e := x_bias m c h
  obtain ⟨e0, e1, e2⟩ := z_parts m c h
  obtain ⟨f0, f1, f2⟩ := y_parts m c h
  have z : (r : EReal) * lg - (r : EReal) * lg = 0 := by
    rw [← EReal.coe_mul, ← EReal.coe_sub, sub_self]; rfl
  rw [hr] at e
  rw [e] at f0 f1 f2
  rw [z] at f1 f2
  rw [sub_zero] at f2
  rw [a_cat, cat3, e0, e1, e2, f0, f1, f2]
  split_ifs <;> rfl

theorem a_pass (c : Dev nD) : Wa m c main_arg0 = m (c, main_arg0) ∧ Wa m c main_arg1 = m (c, main_arg1)
    ∧ Wa m c main_arg2 = m (c, main_arg2) ∧ Wa m c main_v1 = Wx m c main_v1 := by
  have z : Wa m c main_arg0 = Wz m c main_arg0 ∧ Wa m c main_arg1 = Wz m c main_arg1 ∧ Wa m c main_arg2 = Wz m c main_arg2 ∧ Wa m c main_v1 = Wz m c main_v1 := by
    unfold Wa
    simp only [hostOps0, List.take_succ_cons, List.take_zero, List.drop_succ_cons, List.drop_zero]
    refine ⟨?_, ?_, ?_, ?_⟩ <;> · entry_read; rfl
  have y : Wz m c main_arg0 = Wy m c main_arg0 ∧ Wz m c main_arg1 = Wy m c main_arg1 ∧ Wz m c main_arg2 = Wy m c main_arg2 ∧ Wz m c main_v1 = Wy m c main_v1 := by
    unfold Wz
    simp only [hostOps0, List.take_succ_cons, List.take_zero, List.drop_succ_cons, List.drop_zero]
    refine ⟨?_, ?_, ?_, ?_⟩ <;> · entry_read; rfl
  have x : Wy m c main_arg0 = Wx m c main_arg0 ∧ Wy m c main_arg1 = Wx m c main_arg1 ∧ Wy m c main_arg2 = Wx m c main_arg2 ∧ Wy m c main_v1 = Wx m c main_v1 := by
    unfold Wy
    simp only [hostOps0, List.take_succ_cons, List.take_zero, List.drop_succ_cons, List.drop_zero]
    refine ⟨?_, ?_, ?_, ?_⟩ <;> · entry_read; rfl
  have w : Wx m c main_arg0 = m (c, main_arg0) ∧ Wx m c main_arg1 = m (c, main_arg1) ∧ Wx m c main_arg2 = m (c, main_arg2) := by
    unfold Wx
    simp only [hostOps0, List.take_succ_cons, List.take_zero, List.drop_succ_cons, List.drop_zero]
    refine ⟨?_, ?_, ?_⟩ <;> · entry_read; rfl
  exact ⟨((z.1.trans y.1).trans x.1).trans w.1, ((z.2.1.trans y.2.1).trans x.2.1).trans w.2.1, ((z.2.2.1.trans y.2.2.1).trans x.2.2.1).trans w.2.2,
    (z.2.2.2.trans y.2.2.2).trans x.2.2.2⟩

end Cert.Proof.Sb

end
-- ==== Proof.HostTab2.lean ====
module

public import proofs.«01_k».proof.Proof.HostTab

/-! The host's table of the bias: for each head, the lane where its bias stands against a one of the keys. -/

@[expose] public section

set_option maxRecDepth 16384

noncomputable section

namespace Cert.Proof.Sb

open Cert.KernelIdeal Cert.KernelIdeal.Gen
open Idealize.ShloMosaic
open Idealize.ShloMosaic.TcCoe

variable (m : (ℓ : Loc nD τ sig) → Buf (Elt Ideal) ℓ)

attribute [local irreducible] Wx Wy Wz Wa Wb Wc Wd We Wf Wg Wh Wi

theorem b_rem (c : Dev nD) (h : Fin 16) : (Wb m c main_v21 : IVec S16 32) (ix1 h) = BitVec.ofNat 32 (h.val % 2) := by
  obtain ⟨e1, e2⟩ := a_misc m c h
  unfold Wb
  entry_read
  try simp only [StableHlo.TRef.toBuf, StableHlo.TRef.ofBuf, cast_eq]
  pointwise
  rw [e1, e2]
  clear e1 e2
  revert h
  decide

/-- The lane of a head's bias. -/
def firstLane (h : Fin 16) : ℕ := if h.val % 2 = 0 then 64 else 0

/-- A lane's place after the bias's lane, as a word. -/
def slotOf (h : Fin 16) (e : Fin 128) : BitVec 32 := IntOp.subi (BitVec.ofNat 32 e.val) (BitVec.ofNat 32 (firstLane h))

theorem sel_eq (h : Fin 16) : Scalar.select (IntOp.cmpi .eq (BitVec.ofNat 32 (h.val % 2)) 0#32) (64#32) (0#32) = BitVec.ofNat 32 (firstLane h) := by
  revert h; decide

theorem c_slot (c : Dev nD) (h : Fin 16) (e : Fin 128) : (Wc m c main_v31 : IVec S16x128 32) (ix2 h e) = slotOf h e := by
  have e1 := b_rem m c h
  unfold Wc
  entry_read
  try simp only [StableHlo.TRef.toBuf, StableHlo.TRef.ofBuf, cast_eq]
  pointwise
  rw [e1, sel_eq]
  rfl

theorem in_eq (h : Fin 16) (e : Fin 128) : IntOp.andi (IntOp.cmpi .sge (slotOf h e) 0#32) (IntOp.cmpi .slt (slotOf h e) 3#32)
    = if firstLane h ≤ e.val ∧ e.val < firstLane h + 3 then 1#1 else 0#1 := by
  revert e
  unfold slotOf firstLane
  by_cases hh : h.val % 2 = 0
  · simp only [hh, if_true]; decide +kernel
  · simp only [hh, if_false]; decide +kernel

theorem c_in (c : Dev nD) (h : Fin 16) (e : Fin 128) : (Wc m c main_v36 : IVec S16x128 1) (ix2 h e)
    = if firstLane h ≤ e.val ∧ e.val < firstLane h + 3 then 1#1 else 0#1 := by
  have e1 := b_rem m c h
  rw [← in_eq]
  unfold Wc
  entry_read
  try simp only [StableHlo.TRef.toBuf, StableHlo.TRef.ofBuf, cast_eq]
  pointwise
  rw [e1, sel_eq]
  rfl

theorem c_misc (c : Dev nD) : (Wc m c main_c_6 : IVec S_ 32) ix0 = 0#32 ∧ (Wc m c main_c_7 : IVec S_ 32) ix0 = 2#32 := by
  unfold Wc
  refine ⟨?_, ?_⟩ <;> · entry_read; pointwise

theorem clip_eq (h : Fin 16) (e : Fin 128) (j : Fin 3) (hj : e.val = firstLane h + j.val) :
    IntOp.minsi 2#32 (IntOp.maxsi 0#32 (slotOf h e)) = BitVec.ofNat 32 j.val := by
  unfold slotOf
  rw [hj]
  clear hj e
  unfold firstLane
  by_cases hh : h.val % 2 = 0
  · simp only [hh, if_true]; revert j; decide +kernel
  · simp only [hh, if_false]; revert j; decide +kernel

theorem d_clip (c : Dev nD) (h : Fin 16) (e : Fin 128) (j : Fin 3) (hj : e.val = firstLane h + j.val) :
    (Wd m c main_v37 : IVec S16x128 32) (ix2 h e) = BitVec.ofNat 32 j.val := by
  obtain ⟨e1, e2⟩ := c_misc m c
  have e3 := c_slot m c h e
  unfold Wd
  entry_read
  try simp only [StableHlo.TRef.toBuf, StableHlo.TRef.ofBuf, cast_eq]
  pointwise
  rw [e1, e2, e3, clip_eq h e j hj]

theorem d_pass (c : Dev nD) : Wd m c main_v19 = Wa m c main_v19 := by
  unfold Wd Wc Wb
  entry_read
  rfl

/-- The gather along the rows of the table, at a place in range. -/
theorem gather_row (x : FVec Ideal S16x3 .f32) (idx : IVec S16x128x1 32) (h : Fin 16) (e : Fin 128) (j : Fin 3)
    (hidx : idx (ix3 h e 0) = BitVec.ofNat 32 j.val) :
    Host.gather gather_S16x3_S16x128x1_S16x128_n_1_0_0_1_2_11 x idx (ix2 h e) = x (ix2 h j) := by
  show x (GatherDims.operandIdx _ _ _) = _
  congr 1
  funext a
  apply Fin.ext
  match a with
  | ⟨0, _⟩ =>
    show 0 + h.val + 0 = h.val
    omega
  | ⟨1, _⟩ =>
    show min (idx (GatherDims.siIdx _ (ix2 h e) _)).toInt.toNat (3 - 1) + 0 + 0 = j.val
    have e1 : GatherDims.siIdx gather_S16x3_S16x128x1_S16x128_n_1_0_0_1_2_11 (ix2 h e) ⟨0, by decide⟩ = ix3 h e 0 := by
      funext b
      match b with
      | ⟨0, _⟩ => rfl
      | ⟨1, _⟩ => rfl
      | ⟨2, _⟩ => rfl
    have e2 : (BitVec.ofNat 32 j.val).toInt.toNat = j.val := by clear hidx; revert j; decide
    have e3 : min (idx (ix3 h e 0)).toInt.toNat (3 - 1) + 0 + 0 = j.val := by
      rw [hidx, e2]; omega
    rw [← e1] at e3
    exact e3

theorem wrap_eq (j : Fin 3) : Scalar.select (IntOp.cmpi .slt (BitVec.ofNat 32 j.val) 0#32) (IntOp.addi (BitVec.ofNat 32 j.val) 3#32) (BitVec.ofNat 32 j.val)
    = BitVec.ofNat 32 j.val := by revert j; decide

theorem range_eq (j : Fin 3) : IntOp.andi (IntOp.cmpi .sge (BitVec.ofNat 32 j.val) 0#32) (IntOp.cmpi .sle (BitVec.ofNat 32 j.val) 2#32) = 1#1 := by
  revert j; decide

theorem fold_ones {n : ℕ} : Finset.fold IntOp.andi (1#1) (fun _ : Fin n => 1#1) Finset.univ = 1#1 := by
  have : ∀ s : Finset (Fin n), Finset.fold IntOp.andi (1#1) (fun _ : Fin n => 1#1) s = 1#1 := by
    intro s
    induction s using Finset.induction_on with
    | empty => rfl
    | insert a s ha ih => rw [Finset.fold_insert ha, ih]; rfl
  exact this _

theorem select_one {α : Type} (x y : α) : Scalar.select (1#1) x y = x := rfl
theorem select_zero {α : Type} (x y : α) : Scalar.select (0#1) x y = y := rfl

theorem e_take (c : Dev nD) (h : Fin 16) (e : Fin 128) (j : Fin 3) (hj : e.val = firstLane h + j.val) :
    (We m c main_v38 : FVec Ideal S16x128 .f32) (ix2 h e) = (Wa m c main_v19 : FVec Ideal S16x3 .f32) (ix2 h j) := by
  have e1 := d_clip m c h e j hj
  have e2 := d_pass m c
  unfold We
  entry_read
  try simp only [StableHlo.TRef.toBuf, StableHlo.TRef.ofBuf, cast_eq]
  pointwise
  rw [e1, e2, wrap_eq, range_eq, fold_ones, select_one]
  apply gather_row
  show Scalar.select (IntOp.cmpi .slt ((Wd m c main_v37 : IVec S16x128 32) (ix2 h e)) 0#32) (IntOp.addi ((Wd m c main_v37 : IVec S16x128 32) (ix2 h e)) 3#32)
    ((Wd m c main_v37 : IVec S16x128 32) (ix2 h e)) = _
  rw [e1, wrap_eq]

theorem e_in (c : Dev nD) : We m c main_v36 = Wc m c main_v36 := by
  unfold We Wd
  entry_read
  rfl

theorem f_tab (c : Dev nD) (h : Fin 16) (r : ℝ) (hr : biasAt m c h = (r : EReal)) (e : Fin 128) :
    (Wf m c main_v39 : FVec Ideal S16x128 .f32) (ix2 h e) = if e.val = firstLane h then (r : EReal) * lg else 0 := by
  have e1 := c_in m c h e
  rw [← e_in] at e1
  have key : (Wf m c main_v39 : FVec Ideal S16x128 .f32) (ix2 h e)
      = Scalar.select ((We m c main_v36 : IVec S16x128 1) (ix2 h e)) ((We m c main_v38 : FVec Ideal S16x128 .f32) (ix2 h e)) (0 : EReal) := by
    unfold Wf
    entry_read
    try simp only [StableHlo.TRef.toBuf, StableHlo.TRef.ofBuf, cast_eq]
    pointwise
  rw [key, e1]
  by_cases hin : firstLane h ≤ e.val ∧ e.val < firstLane h + 3
  · rw [if_pos hin, select_one, e_take m c h e ⟨e.val - firstLane h, by omega⟩ (by simp; omega), parts_eq m c h r hr]
    simp only [Fin.ext_iff, Fin.val_zero]
    by_cases h0 : e.val = firstLane h
    · rw [if_pos h0, if_pos (show e.val - firstLane h = 0 by omega)]
    · rw [if_neg h0, if_neg (show ¬ e.val - firstLane h = 0 by omega)]
  · rw [if_neg hin, if_neg (by omega)]
    simp [Scalar.select]

/-- What the table's stretch leaves alone. -/
theorem f_pass (c : Dev nD) : Wf m c main_arg0 = Wa m c main_arg0 ∧ Wf m c main_arg1 = Wa m c main_arg1
    ∧ Wf m c main_arg2 = Wa m c main_arg2 ∧ Wf m c main_v1 = Wa m c main_v1 := by
  unfold Wf We Wd Wc Wb
  refine ⟨?_, ?_, ?_, ?_⟩ <;> · entry_read; rfl

end Cert.Proof.Sb

end
-- ==== Proof.HostPack.lean ====
module

public import proofs.«01_k».proof.Proof.HostTab2

/-! The host's packing of the queries, keys and values into blocks, read at an index. -/

@[expose] public section

set_option maxRecDepth 16384

noncomputable section

namespace Cert.Proof.Sb

open Cert.KernelIdeal Cert.KernelIdeal.Gen
open Idealize.ShloMosaic
open Idealize.ShloMosaic.TcCoe

variable (m : (ℓ : Loc nD τ sig) → Buf (Elt Ideal) ℓ)

attribute [local irreducible] Wx Wy Wz Wa Wb Wc Wd We Wf Wg Wh Wi

theorem sge64 (e : Fin 128) : IntOp.cmpi .sge (BitVec.ofNat 32 e.val) 64#32 = if 64 ≤ e.val then 1#1 else 0#1 := by
  revert e; decide +kernel
theorem slt64 (e : Fin 128) : IntOp.cmpi .slt (BitVec.ofNat 32 e.val) 64#32 = if e.val < 64 then 1#1 else 0#1 := by
  revert e; decide +kernel
theorem slt67 (e : Fin 128) : IntOp.cmpi .slt (BitVec.ofNat 32 e.val) 67#32 = if e.val < 67 then 1#1 else 0#1 := by
  revert e; decide +kernel
theorem slt3 (e : Fin 128) : IntOp.cmpi .slt (BitVec.ofNat 32 e.val) 3#32 = if e.val < 3 then 1#1 else 0#1 := by
  revert e; decide +kernel
theorem uitofp_one (φ : FTy) : FloatOps.uitofp (F := Ideal) φ (1#1) = (1 : EReal) := by
  show ((((1#1 : BitVec 1).toNat : ℝ)) : EReal) = 1
  simp
theorem uitofp_zero (φ : FTy) : FloatOps.uitofp (F := Ideal) φ (0#1) = (0 : EReal) := by
  show ((((0#1 : BitVec 1).toNat : ℝ)) : EReal) = 0
  simp

theorem g_lane (c : Dev nD) (j : Fin 256) (e : Fin 128) : (Wg m c main_v42 : IVec S256x128 32) (ix2 j e) = BitVec.ofNat 32 e.val
    ∧ (Wg m c main_v43 : IVec S128x256 32) (ix2 e j) = BitVec.ofNat 32 e.val := by
  unfold Wg
  refine ⟨?_, ?_⟩ <;> · entry_read; pointwise

theorem g_one64 (c : Dev nD) (j : Fin 256) (e : Fin 128) : (Wg m c main_v49 : FVec Ideal S256x128 .f32) (ix2 j e) = if 64 ≤ e.val ∧ e.val < 67 then (1 : EReal) else 0 := by
  unfold Wg
  entry_read
  pointwise
  rw [sge64, slt67]
  by_cases h1 : 64 ≤ e.val <;> by_cases h2 : e.val < 67 <;> simp only [h1, h2, if_true, if_false, and_self, and_true, and_false, true_and, false_and]
  · exact uitofp_one _
  · exact uitofp_zero _
  · exact uitofp_zero _
  · exact uitofp_zero _

theorem g_one3 (c : Dev nD) (j : Fin 256) (e : Fin 128) : (Wg m c main_v52 : FVec Ideal S256x128 .f32) (ix2 j e) = if e.val < 3 then (1 : EReal) else 0 := by
  unfold Wg
  entry_read
  pointwise
  rw [slt3]
  split_ifs
  · exact uitofp_one _
  · exact uitofp_zero _

theorem g_lt64 (c : Dev nD) (j : Fin 256) (e : Fin 128) : (Wg m c main_v66 : IVec S256x128 1) (ix2 j e) = if e.val < 64 then 1#1 else 0#1 := by
  unfold Wg
  entry_read
  pointwise
  rw [slt64]

theorem g_k (c : Dev nD) (n : Fin 2) (p : Fin 8) (t : Fin 33) (j : Fin 256) (e : Fin 128) :
    (Wg m c main_v57 : FVec Ideal S2x8x33x256x128 .f32) (ix5 n p t j e)
      = (Wf m c main_arg1 : FVec Ideal S2x8448x1024 .f32) (ix3 n ⟨t.val * 256 + j.val, by omega⟩ ⟨p.val * 128 + e.val, by omega⟩) := by
  unfold Wg
  entry_read
  try simp only [StableHlo.TRef.toBuf, StableHlo.TRef.ofBuf, cast_eq]
  pointwise

theorem g_q (c : Dev nD) (n : Fin 2) (p : Fin 8) (t : Fin 33) (i : Fin 256) (e : Fin 128) :
    (Wg m c main_v60 : FVec Ideal S2x8x33x128x256 .f32) (ix5 n p t e i)
      = HMul.hMul (α := EReal) ((Wf m c main_arg0 : FVec Ideal S2x8448x1024 .f32) (ix3 n ⟨t.val * 256 + i.val, by omega⟩ ⟨p.val * 128 + e.val, by omega⟩))
        (HMul.hMul (α := EReal) (Ideal.ofBits .f32 0x3E000000#32) ((Wf m c main_v1 : FVec Ideal S_ .f32) ix0)) := by
  unfold Wg
  entry_read
  try simp only [StableHlo.TRef.toBuf, StableHlo.TRef.ofBuf, cast_eq]
  pointwise

theorem g_v (c : Dev nD) (n : Fin 2) (p : Fin 8) (t : Fin 33) (i : Fin 256) (e : Fin 128) :
    (Wg m c main_v63 : FVec Ideal S2x8x33x128x256 .f32) (ix5 n p t e i)
      = (Wf m c main_arg2 : FVec Ideal S2x8448x1024 .f32) (ix3 n ⟨t.val * 256 + i.val, by omega⟩ ⟨p.val * 128 + e.val, by omega⟩) := by
  unfold Wg
  entry_read
  try simp only [StableHlo.TRef.toBuf, StableHlo.TRef.ofBuf, cast_eq]
  pointwise

theorem g_tab (c : Dev nD) (p : Fin 8) (hh : Fin 2) (e : Fin 128) (i : Fin 256) :
    (Wg m c main_v64 : FVec Ideal S8x2x128x256 .f32) (ix4 p hh e i) = (Wf m c main_v39 : FVec Ideal S16x128 .f32) (ix2 ⟨p.val * 2 + hh.val, by omega⟩ e) := by
  unfold Wg
  entry_read
  try simp only [StableHlo.TRef.toBuf, StableHlo.TRef.ofBuf, cast_eq]
  pointwise

theorem h_k (c : Dev nD) (n : Fin 2) (p : Fin 8) (t : Fin 33) (hh : Fin 2) (j : Fin 256) (e : Fin 128) :
    (Wh m c main_v74 : FVec Ideal S2x8x33x2x256x128 .bf16) (ix6 n p t hh j e)
      = if hh.val < 1 then Scalar.select ((Wg m c main_v66 : IVec S256x128 1) (ix2 j e)) ((Wg m c main_v57 : FVec Ideal S2x8x33x256x128 .f32) (ix5 n p t j e)) ((Wg m c main_v49 : FVec Ideal S256x128 .f32) (ix2 j e))
        else Scalar.select (IntOp.cmpi .sge ((Wg m c main_v42 : IVec S256x128 32) (ix2 j e)) 64#32) ((Wg m c main_v57 : FVec Ideal S2x8x33x256x128 .f32) (ix5 n p t j e)) ((Wg m c main_v52 : FVec Ideal S256x128 .f32) (ix2 j e)) := by
  unfold Wh
  entry_read
  try simp only [StableHlo.TRef.toBuf, StableHlo.TRef.ofBuf, cast_eq]
  pointwise
  split_ifs <;> rfl

theorem h_lt64 (c : Dev nD) (e : Fin 128) (i : Fin 256) : (Wh m c main_v76 : IVec S128x256 1) (ix2 e i) = if e.val < 64 then 1#1 else 0#1 := by
  have e1 := (g_lane m c i e).2
  unfold Wh
  entry_read
  try simp only [StableHlo.TRef.toBuf, StableHlo.TRef.ofBuf, cast_eq]
  pointwise
  rw [e1, slt64]

theorem h_tab0 (c : Dev nD) (p : Fin 8) (e : Fin 128) (i : Fin 256) :
    (Wh m c main_v79 : FVec Ideal S8x1x128x256 .f32) (ix4 p 0 e i) = (Wg m c main_v64 : FVec Ideal S8x2x128x256 .f32) (ix4 p 0 e i) := by
  unfold Wh
  entry_read
  try simp only [StableHlo.TRef.toBuf, StableHlo.TRef.ofBuf, cast_eq]
  pointwise

theorem h_pass (c : Dev nD) : Wh m c main_v60 = Wg m c main_v60 ∧ Wh m c main_v64 = Wg m c main_v64 ∧ Wh m c main_v43 = Wg m c main_v43 ∧ Wh m c main_v63 = Wg m c main_v63 := by
  unfold Wh
  refine ⟨?_, ?_, ?_, ?_⟩ <;> · entry_read; rfl

theorem i_k (c : Dev nD) : Wi m c main_v74 = Wh m c main_v74 := by
  unfold Wi
  entry_read
  rfl

theorem i_q (c : Dev nD) (n : Fin 2) (p : Fin 8) (t : Fin 33) (hh : Fin 2) (e : Fin 128) (i : Fin 256) :
    (Wi m c main_v90 : FVec Ideal S2x8x33x2x128x256 .bf16) (ix6 n p t hh e i)
      = if hh.val < 1 then Scalar.select ((Wh m c main_v76 : IVec S128x256 1) (ix2 e i)) ((Wh m c main_v60 : FVec Ideal S2x8x33x128x256 .f32) (ix5 n p t e i)) ((Wh m c main_v79 : FVec Ideal S8x1x128x256 .f32) (ix4 p 0 e i))
        else Scalar.select (IntOp.cmpi .sge ((Wh m c main_v43 : IVec S128x256 32) (ix2 e i)) 64#32) ((Wh m c main_v60 : FVec Ideal S2x8x33x128x256 .f32) (ix5 n p t e i)) ((Wh m c main_v64 : FVec Ideal S8x2x128x256 .f32) (ix4 p 1 e i)) := by
  unfold Wi
  entry_read
  try simp only [StableHlo.TRef.toBuf, StableHlo.TRef.ofBuf, cast_eq]
  pointwise
  split_ifs <;> rfl

theorem i_v (c : Dev nD) (n : Fin 2) (p : Fin 8) (t : Fin 33) (e : Fin 128) (i : Fin 256) :
    (Wi m c main_v91 : FVec Ideal S2x8x33x128x256 .bf16) (ix5 n p t e i) = (Wh m c main_v63 : FVec Ideal S2x8x33x128x256 .f32) (ix5 n p t e i) := by
  unfold Wi
  entry_read
  try simp only [StableHlo.TRef.toBuf, StableHlo.TRef.ofBuf, cast_eq]
  pointwise

theorem i_u (c : Dev nD) (j e : Fin 256) :
    (Wi m c main_v95 : FVec Ideal S256x256 .bf16) (ix2 j e) = FloatOps.uitofp (F := Ideal) .bf16 (IntOp.cmpi .sge (BitVec.ofNat 32 e.val) (BitVec.ofNat 32 j.val)) := by
  unfold Wi
  entry_read
  try simp only [StableHlo.TRef.toBuf, StableHlo.TRef.ofBuf, cast_eq]
  pointwise

theorem sge_tri (j e : Fin 256) : IntOp.cmpi .sge (BitVec.ofNat 32 e.val) (BitVec.ofNat 32 j.val) = if j ≤ e then 1#1 else 0#1 := by
  rw [IntOp.cmpi]
  have hj := j.isLt; have hi := e.isLt
  have h : (BitVec.ofNat 32 j.val).sle (BitVec.ofNat 32 e.val) = decide (j ≤ e) := by
    rw [BitVec.sle_eq_decide, BitVec.toInt_eq_toNat_of_lt (by simp; omega), BitVec.toInt_eq_toNat_of_lt (by simp; omega)]
    simp only [BitVec.toNat_ofNat, Nat.mod_eq_of_lt (show j.val < 2 ^ 32 by omega), Nat.mod_eq_of_lt (show e.val < 2 ^ 32 by omega), Fin.le_def, Int.ofNat_le]
  simp only [h]
  by_cases h : j ≤ e <;> simp [h]

/-- The triangle. -/
theorem u_read (c : Dev nD) (j e : Fin 256) : (V m c main_v95 : FVec Ideal S256x256 .bf16) (ix2 j e) = if j ≤ e then (1 : EReal) else 0 := by
  rw [V_eq, i_u, sge_tri]
  split_ifs
  · exact uitofp_one _
  · exact uitofp_zero _

/-- The values' block. -/
theorem v_read (c : Dev nD) (n : Fin 2) (p : Fin 8) (t : Fin 33) (e : Fin 128) (i : Fin 256) :
    (V m c main_v91 : FVec Ideal S2x8x33x128x256 .bf16) (ix5 n p t e i)
      = (m ((c : Thread nD τ).loc main_arg2) : FVec Ideal S2x8448x1024 .f32) (ix3 n ⟨t.val * 256 + i.val, by omega⟩ ⟨p.val * 128 + e.val, by omega⟩) := by
  rw [V_eq, i_v, (h_pass m c).2.2.2, g_v, (f_pass m c).2.2.1, (a_pass m c).2.2.1]

/-- The keys' block: a head's lanes hold its keys, three of the other head's lanes hold ones, the rest zeros. -/
theorem k_read (c : Dev nD) (n : Fin 2) (p : Fin 8) (t : Fin 33) (hh : Fin 2) (j : Fin 256) (e : Fin 128) :
    (V m c main_v74 : FVec Ideal S2x8x33x2x256x128 .bf16) (ix6 n p t hh j e)
      = if hh.val < 1 then
          (if e.val < 64 then ((m ((c : Thread nD τ).loc main_arg1) : FVec Ideal S2x8448x1024 .f32) (ix3 n ⟨t.val * 256 + j.val, by omega⟩ ⟨p.val * 128 + e.val, by omega⟩) : EReal)
            else if 64 ≤ e.val ∧ e.val < 67 then (1 : EReal) else (0 : EReal))
        else
          (if 64 ≤ e.val then ((m ((c : Thread nD τ).loc main_arg1) : FVec Ideal S2x8448x1024 .f32) (ix3 n ⟨t.val * 256 + j.val, by omega⟩ ⟨p.val * 128 + e.val, by omega⟩) : EReal)
            else if e.val < 3 then (1 : EReal) else (0 : EReal)) := by
  rw [V_eq, i_k, h_k, g_lt64, (g_lane m c j e).1, sge64, g_k, g_one64, g_one3, (f_pass m c).2.1, (a_pass m c).2.1]
  by_cases h1 : hh.val < 1
  · rw [if_pos h1, if_pos h1]
    by_cases h2 : e.val < 64
    · rw [if_pos h2, if_pos h2, select_one]
    · rw [if_neg h2, if_neg h2, select_zero]
  · rw [if_neg h1, if_neg h1]
    by_cases h2 : 64 ≤ e.val
    · rw [if_pos h2, if_pos h2, select_one]
    · rw [if_neg h2, if_neg h2, select_zero]

/-- The queries' block: a head's lanes hold its queries, scaled; one of the other head's lanes holds the head's bias, the rest zeros. -/
theorem q_read (c : Dev nD) (n : Fin 2) (p : Fin 8) (t : Fin 33) (hh : Fin 2) (e : Fin 128) (i : Fin 256) (r : ℝ)
    (hr : biasAt m c ⟨p.val * 2 + hh.val, by omega⟩ = (r : EReal)) :
    (V m c main_v90 : FVec Ideal S2x8x33x2x128x256 .bf16) (ix6 n p t hh e i)
      = if (if hh.val < 1 then e.val < 64 else 64 ≤ e.val) then
          HMul.hMul (α := EReal) ((m ((c : Thread nD τ).loc main_arg0) : FVec Ideal S2x8448x1024 .f32) (ix3 n ⟨t.val * 256 + i.val, by omega⟩ ⟨p.val * 128 + e.val, by omega⟩))
            (((1 / 8 : ℝ) : EReal) * lg)
        else if e.val = (if hh.val < 1 then 64 else 0) then (r : EReal) * lg else 0 := by
  have h8 : Ideal.ofBits .f32 0x3E000000#32 = ((1 / 8 : ℝ) : EReal) := by simp [Ideal.ofBits, Ideal.ieee, -EReal.coe_mul]; norm_num
  rw [V_eq, i_q, h_lt64, h_tab0, (h_pass m c).1, (h_pass m c).2.1, (h_pass m c).2.2.1, (g_lane m c i e).2, sge64, g_q, g_tab, g_tab,
    (f_pass m c).1, (a_pass m c).1, (f_pass m c).2.2.2, (a_pass m c).2.2.2, x_log2e, h8]
  have hl : firstLane ⟨p.val * 2 + hh.val, by omega⟩ = if hh.val < 1 then 64 else 0 := by
    unfold firstLane
    by_cases h1 : hh.val < 1
    · rw [if_pos h1, if_pos (show (p.val * 2 + hh.val) % 2 = 0 by omega)]
    · rw [if_neg h1, if_neg (show ¬ (p.val * 2 + hh.val) % 2 = 0 by omega)]
  rw [← hl]
  have ht := f_tab m c _ r hr e
  by_cases h1 : hh.val < 1
  · have h0 : hh = 0 := by apply Fin.ext; show hh.val = 0; omega
    simp only [if_pos h1]
    by_cases h2 : e.val < 64
    · rw [if_pos h2, if_pos h2, select_one]
    · rw [if_neg h2, if_neg h2, select_zero, ← ht]
      subst h0; rfl
  · have h0 : hh = 1 := by apply Fin.ext; show hh.val = 1; omega
    simp only [if_neg h1]
    by_cases h2 : 64 ≤ e.val
    · rw [if_pos h2, if_pos h2, select_one]
    · rw [if_neg h2, if_neg h2, select_zero, ← ht]
      subst h0; rfl

end Cert.Proof.Sb

end
-- ==== Proof.RefRead.lean ====
module

public import proofs.«01_k».proof.Proof.Gen.ReferenceIdeal.Run
public import Idealize.ShloMosaic.Lib.Pointwise

/-! The reference's result read at an index. -/

@[expose] public section

set_option maxRecDepth 16384

noncomputable section

namespace Cert.Proof.Ref

open Cert.ReferenceIdeal Cert.ReferenceIdeal.Gen Cert.ReferenceIdeal.Value
open Idealize.ShloMosaic
open Idealize.ShloMosaic.TcCoe

abbrev Big (F : FTy → Type) := FVec F S2x16x8448x8448 .f32

/-- The scores. -/
def score (q k : FVec Ideal S2x8448x1024 .f32) (b : FVec Ideal S16 .f32) : Big Ideal :=
  addf (mulf (Host.dotGeneral dot_S2x8448x16x64_S2x8448x16x64_S2x16x8448x8448_3_3_1_1_02_02 none
      (shapeCast _ q shapeCasts_S2x8448x1024_S2x8448x16x64 : FVec Ideal S2x8448x16x64 .f32) (shapeCast _ k shapeCasts_S2x8448x1024_S2x8448x16x64 : FVec Ideal S2x8448x16x64 .f32))
    (broadcastInDim S2x16x8448x8448 ![] bcast_S_S2x16x8448x8448 (constant S_ .f32 0x3E000000#32)))
    (broadcastInDim S2x16x8448x8448 ![0, 1, 2, 3] bcast_S1x16x1x1_S2x16x8448x8448_0_1_2_3 (broadcastInDim S1x16x1x1 ![1] bcast_S16_S1x16x1x1_1 b))

def zeros : Big Ideal := broadcastInDim S2x16x8448x8448 ![] bcast_S_S2x16x8448x8448 (constant S_ .f32 0x00000000#32)

/-- The softplus of an array, as log(exp x + exp 0). -/
def softplus (x : Big Ideal) : Big Ideal :=
  select (cmpf .une (subf x zeros) (subf x zeros)) (addf x zeros)
    (addf (maximumf x zeros) (Host.log1p (Host.exp (Host.negf (Host.absf (subf x zeros))))))

def mask : IVec S2x16x8448x8448 1 :=
  broadcastInDim S2x16x8448x8448 ![2, 3] bcast_S8448x8448_S2x16x8448x8448_2_3 (cmpi .slt (iotaInDim S8448x8448 32 1) (iotaInDim S8448x8448 32 0))

/-- log (1 - beta), zero where the key is not visible. -/
def logRest (s : Big Ideal) : Big Ideal :=
  select mask (Host.negf (softplus (Host.negf (Host.negf s)))) (broadcastInDim S2x16x8448x8448 ![] bcast_S_S2x16x8448x8448 (id (constant S_ .f32 0x00000000#32)))

/-- The sums over the later keys and the key itself. -/
def laterSum (l : Big Ideal) : Big Ideal :=
  Host.reduceWindowAdd ![1, 1, 1, 8448] ![1, 1, 1, 1] ![0, 0, 0, 0] ![0, 0, 0, 8447] l (broadcastInDim S_ ![] bcast_S_S_ (constant S_ .f32 0x00000000#32))
    reduceWindows_S2x16x8448x8448_S2x16x8448x8448_w1s1p0_0_w1s1p0_0_w1s1p0_0_w8448s1p0_8447 h_S_

/-- The attention weights. -/
def weights (s : Big Ideal) : Big Ideal :=
  select mask (Host.exp (addf (Host.negf (softplus (Host.negf s))) (subf (laterSum (logRest s)) (logRest s))))
    (broadcastInDim S2x16x8448x8448 ![] bcast_S_S2x16x8448x8448 (id (constant S_ .f32 0x00000000#32)))

def out (w : Big Ideal) (v : FVec Ideal S2x8448x1024 .f32) : FVec Ideal S2x8448x1024 .f32 :=
  shapeCast _ (transpose S2x8448x16x64 [0, 3, 1, 2] (Host.dotGeneral dot_S2x8448x16x64_S2x16x8448x8448_S2x16x64x8448_1_3_3_2_02_01 none
    (shapeCast _ v shapeCasts_S2x8448x1024_S2x8448x16x64 : FVec Ideal S2x8448x16x64 .f32) w) transposes_S2x16x64x8448_S2x8448x16x64_0_3_1_2) shapeCasts_S2x8448x16x64_S2x8448x1024

set_option maxHeartbeats 1000000 in
theorem result_eq (m : (ℓ : Loc nD τ sig) → Buf (Elt Ideal) ℓ) (c : Dev nD) :
    res_main_v23 m c = out (weights (score (m ((c.tc : Thread nD τ).loc main_arg0)) (m ((c.tc : Thread nD τ).loc main_arg1)) (m ((c.tc : Thread nD τ).loc main_arg3))))
      (m ((c.tc : Thread nD τ).loc main_arg2)) := by
  unfold res_main_v23
  rfl

theorem score_apply (q k : FVec Ideal S2x8448x1024 .f32) (b : FVec Ideal S16 .f32) (n : Fin 2) (h : Fin 16) (Q K : Fin 8448) :
    score q k b (ix4 n h Q K) = (∑ d : Fin 64, q (ix3 n Q ⟨64 * h.val + d.val, by omega⟩) * k (ix3 n K ⟨64 * h.val + d.val, by omega⟩)) * ((1/8 : ℝ) : EReal) + b (ix1 h) := by
  have h8 : Ideal.ofBits .f32 0x3E000000#32 = ((1 / 8 : ℝ) : EReal) := by
    simp [Ideal.ofBits, Ideal.ieee, -EReal.coe_mul]; norm_num
  pointwise [score]
  rw [h8]
  simp only [Nat.mul_comm 64]

theorem zeros_apply (i : S2x16x8448x8448.Idx) : zeros i = 0 := by pointwise [zeros]

/-- The softplus of one number. -/
def sp (x : EReal) : EReal := max x 0 + Ideal.log1p (Ideal.exp (-(max x (-x))))

theorem softplus_apply (x : Big Ideal) (i : S2x16x8448x8448.Idx) : softplus x i = sp (x i) := by
  pointwise [softplus, zeros]
  simp only [ne_eq, not_true_eq_false, if_false]
  rfl

theorem mask_apply (n : Fin 2) (h : Fin 16) (Q K : Fin 8448) : mask (ix4 n h Q K) = if K < Q then 1#1 else 0#1 := by
  pointwise [mask]
  rw [IntOp.cmpi]
  have hj := Q.isLt; have hi := K.isLt
  have e : (BitVec.ofNat 32 K.val).slt (BitVec.ofNat 32 Q.val) = decide (K < Q) := by
    rw [BitVec.slt_eq_decide, BitVec.toInt_eq_toNat_of_lt (by simp; omega), BitVec.toInt_eq_toNat_of_lt (by simp; omega)]
    simp only [BitVec.toNat_ofNat, Nat.mod_eq_of_lt (show K.val < 2 ^ 32 by omega), Nat.mod_eq_of_lt (show Q.val < 2 ^ 32 by omega), Fin.lt_def, Int.ofNat_lt]
  simp only [e]
  by_cases h : K < Q <;> simp [h]

theorem logRest_apply (s : Big Ideal) (n : Fin 2) (h : Fin 16) (Q K : Fin 8448) :
    logRest s (ix4 n h Q K) = if K < Q then -(sp (s (ix4 n h Q K))) else 0 := by
  pointwise [logRest]
  rw [softplus_apply, mask_apply]
  pointwise []
  rw [neg_neg]
  by_cases h : K < Q <;> simp [h, Scalar.select]
  pointwise []

theorem weights_apply (s : Big Ideal) (n : Fin 2) (h : Fin 16) (Q K : Fin 8448) :
    weights s (ix4 n h Q K) = if K < Q then Ideal.exp (-(sp (-(s (ix4 n h Q K)))) + (laterSum (logRest s) (ix4 n h Q K) - logRest s (ix4 n h Q K))) else 0 := by
  pointwise [weights]
  rw [softplus_apply, mask_apply]
  pointwise []
  by_cases h : K < Q <;> simp [h, Scalar.select]
  pointwise []

theorem out_apply (w : Big Ideal) (v : FVec Ideal S2x8448x1024 .f32) (n : Fin 2) (Q : Fin 8448) (h : Fin 16) (d : Fin 64) :
    out w v (ix3 n Q ⟨64 * h.val + d.val, by omega⟩) = ∑ K : Fin 8448, v (ix3 n K ⟨64 * h.val + d.val, by omega⟩) * w (ix4 n h Q K) := by
  pointwise [out]
  simp only [Nat.mul_comm 64]

theorem foldl_sum {α : Type} (l : List α) (g : α → EReal) (r : EReal) : l.foldl (fun r n => r + g n) r = r + (l.map g).sum := by
  induction l generalizing r with
  | nil => simp
  | cons a l ih => rw [List.foldl_cons, ih, List.map_cons, List.sum_cons, add_assoc]

theorem foldl_finRange (N : ℕ) (g : Fin N → EReal) : (List.finRange N).foldl (fun r n => r + g n) 0 = ∑ n, g n := by
  rw [foldl_sum, zero_add, ← List.ofFn_eq_map, List.sum_ofFn]

/-- The indices of a window of 8448 keys. -/
def winEquiv : (⟨4, ![1, 1, 1, 8448]⟩ : Shape).Idx ≃ Fin 8448 where
  toFun w := w 3
  invFun j := ix4 (0 : Fin 1) (0 : Fin 1) (0 : Fin 1) j
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv j := rfl

theorem laterSum_apply (l : Big Ideal) (n : Fin 2) (h : Fin 16) (Q K : Fin 8448) :
    laterSum l (ix4 n h Q K) = ∑ w : Fin 8448, if hw : K.val + w.val < 8448 then l (ix4 n h Q ⟨K.val + w.val, hw⟩) else 0 := by
  have h0 : (broadcastInDim S_ ![] bcast_S_S_ (constant S_ .f32 0x00000000#32) : FVec Ideal S_ .f32) (Shape.Idx.first h_S_) = 0 := by
    pointwise []
  unfold laterSum Host.reduceWindowAdd
  rw [h0]
  show Ideal.hostReduceWindowAdd _ _ _ _ _ l 0 (ix4 n h Q K) = _
  unfold Ideal.hostReduceWindowAdd Host.reduceWindow
  rw [foldl_finRange]
  refine Fintype.sum_equiv ((Shape.rowMajor _).symm.trans winEquiv) _ _ fun p => ?_
  obtain ⟨w, rfl⟩ := (Shape.rowMajor (⟨4, ![1, 1, 1, 8448]⟩ : Shape)).surjective p
  obtain ⟨j, rfl⟩ := winEquiv.symm.surjective w
  simp only [Equiv.trans_apply, Equiv.symm_apply_apply, Equiv.apply_symm_apply]
  by_cases hj : K.val + j.val < 8448
  · rw [dif_pos hj, dif_pos]
    · refine congrArg l (funext fun a => Fin.ext ?_)
      match a with
      | ⟨0, _⟩ => show n.val * 1 + 0 - 0 = n.val; omega
      | ⟨1, _⟩ => show h.val * 1 + 0 - 0 = h.val; omega
      | ⟨2, _⟩ => show Q.val * 1 + 0 - 0 = Q.val; omega
      | ⟨3, _⟩ => show K.val * 1 + j.val - 0 = K.val + j.val; omega
    · intro a
      have := n.isLt; have := h.isLt; have := Q.isLt
      match a with
      | ⟨0, _⟩ => show 0 ≤ n.val * 1 + 0 ∧ n.val * 1 + 0 - 0 < 2; omega
      | ⟨1, _⟩ => show 0 ≤ h.val * 1 + 0 ∧ h.val * 1 + 0 - 0 < 16; omega
      | ⟨2, _⟩ => show 0 ≤ Q.val * 1 + 0 ∧ Q.val * 1 + 0 - 0 < 8448; omega
      | ⟨3, _⟩ => show 0 ≤ K.val * 1 + j.val ∧ K.val * 1 + j.val - 0 < 8448; omega
  · rw [dif_neg hj, dif_neg]
    intro hin
    have h3 : 0 ≤ K.val * 1 + j.val ∧ K.val * 1 + j.val - 0 < 8448 := hin 3
    omega

end Cert.Proof.Ref

end
-- ==== Proof.Scalar.lean ====
module

public import proofs.«01_k».proof.Proof.Entry
public import proofs.«01_k».proof.Proof.RefRead

/-! The softplus in base two against the softplus, and one weight of the kernel against one weight of the
reference, over the extended reals. -/

@[expose] public section

noncomputable section

namespace Cert.Proof.Sb

open Idealize.ShloMosaic
open Cert.Proof.Ref (sp)

theorem log_two_pos : (0 : ℝ) < Real.log 2 := Real.log_pos (by norm_num)

theorem lg_pos : (0 : ℝ) < (Real.log 2)⁻¹ := inv_pos.2 log_two_pos

theorem exp_coe (r : ℝ) : Ideal.exp (r : EReal) = ((Real.exp r : ℝ) : EReal) := rfl
theorem exp_bot : Ideal.exp ⊥ = 0 := rfl
theorem exp2_coe (r : ℝ) : Ideal.exp2 (r : EReal) = ((Real.exp (Real.log 2 * r) : ℝ) : EReal) := by
  show ((Real.rpow 2 r : ℝ) : EReal) = _
  rw [show Real.rpow 2 r = Real.exp (Real.log 2 * r) from Real.rpow_def_of_pos (by norm_num) r]
theorem exp2_bot : Ideal.exp2 ⊥ = 0 := rfl
theorem log_coe (r : ℝ) (h : 0 < r) : Ideal.log (r : EReal) = ((Real.log r : ℝ) : EReal) := by
  show (if r ≤ 0 then ⊥ else ((Real.log r : ℝ) : EReal)) = _
  rw [if_neg (not_le.2 h)]
theorem log_one : Ideal.log 1 = 0 := by
  rw [← EReal.coe_one, log_coe 1 one_pos, Real.log_one, EReal.coe_zero]

theorem coe_max (a b : ℝ) : ((max a b : ℝ) : EReal) = max (a : EReal) (b : EReal) := EReal.coe_strictMono.monotone.map_max
theorem zero_sub_top : (0 : EReal) - ⊤ = ⊥ := rfl
theorem coe_sub_top (r : ℝ) : (r : EReal) - ⊤ = ⊥ := rfl

theorem max_neg_coe (r : ℝ) : max (r : EReal) (-(r : EReal)) = ((|r| : ℝ) : EReal) := by
  rw [← EReal.coe_neg, ← coe_max]; rfl

/-- The softplus of a real. -/
def spR (r : ℝ) : ℝ := max r 0 + Real.log (1 + Real.exp (-|r|))

theorem one_add_exp_pos (r : ℝ) : 0 < 1 + Real.exp r := by have := Real.exp_pos r; linarith

theorem sp_coe (r : ℝ) : sp (r : EReal) = ((spR r : ℝ) : EReal) := by
  unfold sp spR Ideal.log1p
  rw [max_neg_coe, ← EReal.coe_neg, exp_coe, ← EReal.coe_one, ← EReal.coe_add, log_coe _ (one_add_exp_pos _), ← EReal.coe_zero,
    ← coe_max, ← EReal.coe_add]

theorem sp_top : sp ⊤ = ⊤ := by
  unfold sp Ideal.log1p
  rw [max_eq_left (by simp), max_eq_left (by simp), EReal.neg_top, exp_bot, add_zero, log_one, add_zero]
theorem sp_bot : sp ⊥ = 0 := by
  unfold sp Ideal.log1p
  rw [max_eq_right (by simp), max_eq_right (by simp), EReal.neg_bot, EReal.neg_top, exp_bot, add_zero, log_one, add_zero]

theorem spR_nonneg (r : ℝ) : 0 ≤ spR r := by
  unfold spR
  have h1 : 0 ≤ max r 0 := le_max_right _ _
  have h2 : 0 ≤ Real.log (1 + Real.exp (-|r|)) := Real.log_nonneg (by have := Real.exp_pos (-|r|); linarith)
  linarith

theorem spR_neg (r : ℝ) : spR r - spR (-r) = r := by
  unfold spR
  rw [abs_neg]
  rcases le_total r 0 with h | h
  · rw [max_eq_right h, max_eq_left (by linarith)]; ring
  · rw [max_eq_left h, max_eq_right (by linarith)]; ring

theorem sp_nonneg (x : EReal) : 0 ≤ sp x := by
  induction x with
  | bot => rw [sp_bot]
  | top => rw [sp_top]; exact le_top
  | coe r => rw [sp_coe]; exact EReal.coe_nonneg.2 (spR_nonneg r)

theorem lg_mul_top : lg * ⊤ = ⊤ := EReal.coe_mul_top_of_pos lg_pos
theorem lg_mul_bot : lg * ⊥ = ⊥ := EReal.coe_mul_bot_of_pos lg_pos

/-- The softplus in base two of a score in base two is the softplus of the score, in base two. -/
theorem sp2_eq (s : EReal) : sp2 (lg * s) = lg * sp s := by
  induction s with
  | bot =>
    rw [sp_bot, lg_mul_bot, mul_zero]
    unfold sp2
    rw [max_eq_right (by simp), max_eq_right (by simp), EReal.neg_bot, zero_sub_top, exp2_bot, add_zero, log_one, zero_mul, add_zero]
  | top =>
    rw [sp_top, lg_mul_top]
    unfold sp2
    rw [max_eq_left (by simp), max_eq_left (by simp), zero_sub_top, exp2_bot, add_zero, log_one, zero_mul, add_zero]
  | coe r =>
    have hp := log_two_pos
    have hl := lg_pos
    rw [sp_coe, ← EReal.coe_mul, ← EReal.coe_mul]
    unfold sp2 spR
    rw [max_neg_coe, ← EReal.coe_zero, ← EReal.coe_sub, exp2_coe, ← EReal.coe_one, ← EReal.coe_add, log_coe _ (one_add_exp_pos _),
      ← coe_max, ← EReal.coe_mul, ← EReal.coe_add, EReal.coe_eq_coe_iff]
    have e1 : Real.log 2 * (0 - |(Real.log 2)⁻¹ * r|) = -|r| := by
      rw [abs_mul, abs_of_pos hl]; field_simp; ring
    have e2 : max ((Real.log 2)⁻¹ * r) 0 = (Real.log 2)⁻¹ * max r 0 := by
      rw [mul_max_of_nonneg _ _ hl.le, mul_zero]
    rw [e1, e2]; ring

theorem exp2_nonneg (x : EReal) : 0 ≤ Ideal.exp2 x := by
  induction x with
  | bot => rw [exp2_bot]
  | top => exact le_top
  | coe r => rw [exp2_coe]; exact EReal.coe_nonneg.2 (Real.exp_pos _).le

/-- A carried factor is a real number. -/
theorem exp2_ne_top (x : EReal) (hx : x ≠ ⊤) : Ideal.exp2 x ≠ ⊤ := by
  induction x with
  | bot => rw [exp2_bot]; exact EReal.zero_ne_top
  | top => exact absurd rfl hx
  | coe r => rw [exp2_coe]; exact EReal.coe_ne_top _

/-- One weight: the carried factor times the tile's weight is the reference's weight. -/
theorem weight_eq (s T1 T2 : EReal) (h1 : sp s ≤ T1) (h2 : 0 ≤ T2) :
    Ideal.exp2 (0 - lg * T2) * Ideal.exp2 (lg * s - lg * T1) = Ideal.exp (-(sp (-s)) + (-(T1 + T2) - (-(sp s)))) := by
  have hT1 : 0 ≤ T1 := (sp_nonneg s).trans h1
  induction s with
  | bot =>
    rw [sp_bot, EReal.neg_bot, sp_top, lg_mul_bot, EReal.neg_top, EReal.bot_add, exp_bot, sub_eq_add_neg ⊥, EReal.bot_add, exp2_bot, mul_zero]
  | top =>
    rw [sp_top] at h1
    have : T1 = ⊤ := top_le_iff.1 h1
    subst this
    have e : (⊤ : EReal) + T2 = ⊤ := EReal.top_add_of_ne_bot (by rintro rfl; simp at h2)
    rw [sp_top, EReal.neg_top, sp_bot, lg_mul_top, e, EReal.neg_top]
    rw [show (⊥ : EReal) - ⊥ = ⊥ from rfl, show (⊤ : EReal) - ⊤ = ⊥ from rfl, EReal.add_bot, exp_bot, exp2_bot, mul_zero]
  | coe r =>
    induction T1 with
    | bot => simp at hT1
    | top =>
      have e : (⊤ : EReal) + T2 = ⊤ := EReal.top_add_of_ne_bot (by rintro rfl; simp at h2)
      rw [lg_mul_top, e, EReal.neg_top, sub_eq_add_neg ⊥, EReal.bot_add, EReal.add_bot, exp_bot, ← EReal.coe_mul, coe_sub_top, exp2_bot, mul_zero]
    | coe t1 =>
      induction T2 with
      | bot => simp at h2
      | top =>
        rw [lg_mul_top, EReal.add_top_of_ne_bot (EReal.coe_ne_bot _), EReal.neg_top, sub_eq_add_neg ⊥, EReal.bot_add, EReal.add_bot, exp_bot,
          zero_sub_top, exp2_bot, zero_mul]
      | coe t2 =>
        rw [← EReal.coe_neg, sp_coe, sp_coe, ← EReal.coe_add, ← EReal.coe_neg, ← EReal.coe_neg, ← EReal.coe_neg, ← EReal.coe_sub, ← EReal.coe_add, exp_coe,
          ← EReal.coe_mul, ← EReal.coe_mul, ← EReal.coe_mul, ← EReal.coe_sub, ← EReal.coe_zero, ← EReal.coe_sub, exp2_coe, exp2_coe, ← EReal.coe_mul,
          ← Real.exp_add, EReal.coe_eq_coe_iff]
        congr 1
        have := spR_neg r
        have hp := log_two_pos.ne'
        field_simp
        linarith

end Cert.Proof.Sb

end
-- ==== Proof.SumLaw.lean ====
module

public import proofs.«01_k».proof.Proof.Scalar

/-! One query: the fold over the key tiles, newest first, is the sum over all the keys with the reference's weights. -/

@[expose] public section

noncomputable section

namespace Cert.Proof.Sb

open Idealize.ShloMosaic
open Cert.Proof.Ref (sp)
open Finset

/-! Sums over the extended reals. -/

theorem lg_mul_add (x y : EReal) : lg * (x + y) = lg * x + lg * y :=
  EReal.left_distrib_of_nonneg_of_ne_top (EReal.coe_nonneg.2 lg_pos.le) (EReal.coe_ne_top _) x y

theorem factor_mul_sum {ι : Type} [DecidableEq ι] (w : EReal) (h0 : 0 ≤ w) (ht : w ≠ ⊤) (s : Finset ι) (f : ι → EReal) :
    w * ∑ e ∈ s, f e = ∑ e ∈ s, w * f e := by
  induction s using Finset.induction_on with
  | empty => simp
  | insert a s ha ih => rw [sum_insert ha, sum_insert ha, EReal.left_distrib_of_nonneg_of_ne_top h0 ht, ih]

theorem lg_mul_sum {ι : Type} [DecidableEq ι] (s : Finset ι) (f : ι → EReal) : lg * ∑ e ∈ s, f e = ∑ e ∈ s, lg * f e :=
  factor_mul_sum _ (EReal.coe_nonneg.2 lg_pos.le) (EReal.coe_ne_top _) s f

theorem neg_sum {ι : Type} [DecidableEq ι] (s : Finset ι) (f : ι → EReal) (h : ∀ e, 0 ≤ f e) : ∑ e ∈ s, -f e = -∑ e ∈ s, f e := by
  induction s using Finset.induction_on with
  | empty => simp
  | insert a s ha ih =>
    have h1 : f a ≠ ⊥ := fun hh => by have := h a; rw [hh] at this; simp at this
    have h2 : ∑ e ∈ s, f e ≠ ⊥ := fun hh => by have := sum_nonneg (fun e (_ : e ∈ s) => h e); rw [hh] at this; simp at this
    rw [sum_insert ha, sum_insert ha, ih, EReal.neg_add (Or.inl h1) (Or.inr h2), sub_eq_add_neg]

/-- A sum over the keys is a sum over the tiles and the keys of a tile. -/
theorem sum_tiles (T : ℕ) (g : ℕ → EReal) : ∑ K ∈ range (256 * T), g K = ∑ t ∈ range T, ∑ e ∈ range 256, g (256 * t + e) := by
  induction T with
  | zero => simp
  | succ T ih => rw [sum_range_succ, ← ih, Nat.mul_succ, sum_range_add]

/-- The tiles up to `q`, newest first. -/
theorem sum_newest (q : ℕ) (hq : q < 33) (h : ℕ → EReal) (hz : ∀ t, q < t → h t = 0) :
    ∑ t ∈ range 33, h t = ∑ n ∈ range (q + 1), h (q - n) := by
  symm
  have e : ∑ n ∈ range (q + 1), h (q - n) = ∑ t ∈ range (q + 1), h t := by
    rw [← sum_range_reflect h (q + 1)]
    apply sum_congr rfl
    intro n _
    congr 1
  rw [e]
  apply sum_subset (range_subset_range.2 (by omega))
  intro t _ ht
  exact hz t (by simp only [mem_range] at ht; omega)

section
variable (q i : ℕ) (s v : ℕ → EReal)

/-- The softplus of the keys before the query. -/
def fS (K : ℕ) : EReal := if K < 256 * q + i then sp (s K) else 0

theorem fS_nonneg (K : ℕ) : 0 ≤ fS q i s K := by
  unfold fS; split_ifs
  · exact sp_nonneg _
  · exact le_rfl

/-- The softplus over the keys of a tile from one on. -/
def inTile (n j : ℕ) : EReal := ∑ e ∈ range 256, if j ≤ e then fS q i s (256 * (q - n) + e) else 0
/-- The softplus over the tiles newer than one. -/
def newer (n : ℕ) : EReal := ∑ n' ∈ range n, inTile q i s n' 0

/-- The kernel's column sum. -/
def colS (n j : ℕ) : EReal :=
  ∑ e ∈ range 256, (if j ≤ e then (1 : EReal) else 0) * (if n = 0 ∧ ¬ e < i then 0 else sp2 (lg * s (256 * (q - n) + e)))
/-- The kernel's weight in a tile. -/
def wtS (n j : ℕ) : EReal := if n = 0 ∧ ¬ j < i then 0 else Ideal.exp2 (lg * s (256 * (q - n) + j) - colS q i s n j)
/-- The row carried past the newer tiles. -/
def rowS (n : ℕ) : EReal := ∑ n' ∈ range n, colS q i s n' 0
/-- The accumulator after the newest `n` tiles. -/
def accS (n : ℕ) : EReal := ∑ n' ∈ range n, Ideal.exp2 (0 - rowS q i s n') * ∑ e ∈ range 256, v (256 * (q - n') + e) * wtS q i s n' e

/-- The reference's logarithm of one key's remainder. -/
def logS (K : ℕ) : EReal := if K < 256 * q + i then -(sp (s K)) else 0
def laterS (K : ℕ) : EReal := ∑ w ∈ range 8448, if K + w < 8448 then logS q i s (K + w) else 0
def refWt (K : ℕ) : EReal := if K < 256 * q + i then Ideal.exp (-(sp (-(s K))) + (laterS q i s K - logS q i s K)) else 0

theorem masked (n e : ℕ) (hn : n ≤ q) (he : e < 256) (hi : i < 256) : (n = 0 ∧ ¬ e < i) ↔ ¬ 256 * (q - n) + e < 256 * q + i := by omega

theorem colS_eq (n j : ℕ) (hn : n ≤ q) (hi : i < 256) : colS q i s n j = lg * inTile q i s n j := by
  unfold colS inTile
  rw [lg_mul_sum]
  apply sum_congr rfl
  intro e he
  have he' := mem_range.1 he
  by_cases h : j ≤ e
  · rw [if_pos h, if_pos h, one_mul]
    unfold fS
    by_cases hm : n = 0 ∧ ¬ e < i
    · rw [if_pos hm, if_neg ((masked q i n e hn he' hi).1 hm), mul_zero]
    · rw [if_neg hm, if_pos (not_not.1 (fun hh => hm ((masked q i n e hn he' hi).2 hh))), sp2_eq]
  · rw [if_neg h, if_neg h, zero_mul, mul_zero]

theorem rowS_eq (n : ℕ) (hn : n ≤ q + 1) (hi : i < 256) : rowS q i s n = lg * newer q i s n := by
  unfold rowS newer
  rw [lg_mul_sum]
  apply sum_congr rfl
  intro n' hn'
  exact colS_eq q i s n' 0 (by have := mem_range.1 hn'; omega) hi

theorem inTile_nonneg (n j : ℕ) : 0 ≤ inTile q i s n j :=
  sum_nonneg (fun e _ => by split_ifs; exact fS_nonneg q i s _; exact le_rfl)
theorem newer_nonneg (n : ℕ) : 0 ≤ newer q i s n := sum_nonneg (fun n' _ => inTile_nonneg q i s n' 0)

theorem sp_le_inTile (n j : ℕ) (hn : n ≤ q) (hj : j < 256) (hm : 256 * (q - n) + j < 256 * q + i) : sp (s (256 * (q - n) + j)) ≤ inTile q i s n j := by
  unfold inTile
  have := single_le_sum (f := fun e => if j ≤ e then fS q i s (256 * (q - n) + e) else 0) (s := range 256)
    (fun e _ => by split_ifs; exact fS_nonneg q i s _; exact le_rfl) (mem_range.2 hj)
  refine le_trans (le_of_eq ?_) this
  rw [if_pos le_rfl, fS, if_pos hm]

/-- The sum of a later key's softplus, in tiles. -/
theorem tail_eq (n j : ℕ) (hq : q < 33) (hn : n ≤ q) (hj : j < 256) (hi : i < 256) :
    ∑ K ∈ range 8448, (if 256 * (q - n) + j ≤ K then fS q i s K else 0) = inTile q i s n j + newer q i s n := by
  rw [show 8448 = 256 * 33 from rfl, sum_tiles, sum_newest q hq]
  · have e1 : ∑ n' ∈ range (q + 1), ∑ e ∈ range 256, (if 256 * (q - n) + j ≤ 256 * (q - n') + e then fS q i s (256 * (q - n') + e) else 0)
        = ∑ n' ∈ range (n + 1), ∑ e ∈ range 256, (if 256 * (q - n) + j ≤ 256 * (q - n') + e then fS q i s (256 * (q - n') + e) else 0) := by
      symm
      apply sum_subset (range_subset_range.2 (by omega))
      intro n' h1 h2
      simp only [mem_range] at h1 h2
      apply sum_eq_zero
      intro e he
      have := mem_range.1 he
      rw [if_neg (by omega)]
    rw [e1, sum_range_succ, add_comm]
    congr 1
    · unfold inTile
      apply sum_congr rfl
      intro e _
      congr 1
      simp
    · unfold newer inTile
      apply sum_congr rfl
      intro n' hn'
      have := mem_range.1 hn'
      apply sum_congr rfl
      intro e _
      rw [if_pos (by omega), if_pos (Nat.zero_le _)]
  · intro t ht
    apply sum_eq_zero
    intro e he
    have := mem_range.1 he
    unfold fS
    rw [if_neg (show ¬ 256 * t + e < 256 * q + i by omega)]
    simp

theorem laterS_eq (K : ℕ) (hK : K < 8448) : laterS q i s K = -∑ K' ∈ range 8448, (if K ≤ K' then fS q i s K' else 0) := by
  unfold laterS
  rw [← neg_sum _ _ (fun e => by split_ifs; exact fS_nonneg q i s _; exact le_rfl)]
  have e1 : ∑ K' ∈ range 8448, -(if K ≤ K' then fS q i s K' else 0) = ∑ w ∈ range (8448 - K), -(fS q i s (K + w)) := by
    rw [show (8448 : ℕ) = K + (8448 - K) by omega, sum_range_add]
    rw [sum_eq_zero (fun x hx => by rw [if_neg (by have := mem_range.1 hx; omega), neg_zero]), zero_add]
    rw [show K + (8448 - K) - K = 8448 - K by omega]
    apply sum_congr rfl
    intro w _
    rw [if_pos (by omega)]
  rw [e1]
  have e2 : ∑ w ∈ range 8448, (if K + w < 8448 then logS q i s (K + w) else 0) = ∑ w ∈ range (8448 - K), (if K + w < 8448 then logS q i s (K + w) else 0) := by
    symm
    apply sum_subset (range_subset_range.2 (by omega))
    intro w h1 h2
    simp only [mem_range] at h1 h2
    rw [if_neg (by omega)]
  rw [e2]
  apply sum_congr rfl
  intro w hw
  have := mem_range.1 hw
  rw [if_pos (by omega)]
  unfold logS fS
  split_ifs
  · rfl
  · rw [neg_zero]

theorem rowS_factor (n : ℕ) (hn : n ≤ q + 1) (hi : i < 256) : 0 - rowS q i s n ≠ ⊤ := by
  rw [rowS_eq q i s n hn hi, zero_sub]
  intro h
  have h1 : lg * newer q i s n = ⊥ := EReal.neg_eq_top_iff.1 h
  have h2 : 0 ≤ lg * newer q i s n := mul_nonneg (EReal.coe_nonneg.2 lg_pos.le) (newer_nonneg q i s n)
  rw [h1] at h2; simp at h2

theorem wt_ref (n j : ℕ) (hq : q < 33) (hn : n ≤ q) (hj : j < 256) (hi : i < 256) :
    Ideal.exp2 (0 - rowS q i s n) * wtS q i s n j = refWt q i s (256 * (q - n) + j) := by
  unfold wtS refWt
  by_cases hm : n = 0 ∧ ¬ j < i
  · rw [if_pos hm, if_neg ((masked q i n j hn hj hi).1 hm), mul_zero]
  · have hlt : 256 * (q - n) + j < 256 * q + i := not_not.1 (fun hh => hm ((masked q i n j hn hj hi).2 hh))
    rw [if_neg hm, if_pos hlt, rowS_eq q i s n (by omega) hi, colS_eq q i s n j hn hi, laterS_eq q i s _ (by omega), tail_eq q i s n j hq hn hj hi,
      logS, if_pos hlt]
    exact weight_eq _ _ _ (sp_le_inTile q i s n j hn hj hlt) (newer_nonneg q i s n)

/-- The fold over the tiles is the sum over the keys. -/
theorem accS_eq (hq : q < 33) (hi : i < 256) : accS q i s v (q + 1) = ∑ K ∈ range 8448, v K * refWt q i s K := by
  rw [show 8448 = 256 * 33 from rfl, sum_tiles, sum_newest q hq]
  · unfold accS
    apply sum_congr rfl
    intro n hn
    have hn' := mem_range.1 hn
    rw [factor_mul_sum _ (exp2_nonneg _) (exp2_ne_top _ (rowS_factor q i s n (by omega) hi))]
    apply sum_congr rfl
    intro e he
    rw [mul_left_comm, wt_ref q i s n e hq (by omega) (mem_range.1 he) hi]
  · intro t ht
    apply sum_eq_zero
    intro e he
    have := mem_range.1 he
    unfold refWt
    rw [if_neg (show ¬ 256 * t + e < 256 * q + i by omega), mul_zero]

end

end Cert.Proof.Sb

end
-- ==== Proof.Fold.lean ====
module

public import proofs.«01_k».proof.Proof.SumLaw

/-! The fold of one query tile, read at one lane of the accumulator and one query. -/

@[expose] public section

set_option maxRecDepth 16384

noncomputable section

namespace Cert.Proof.Sb

open Cert.KernelIdeal Cert.KernelIdeal.Gen
open Idealize.ShloMosaic
open Finset

theorem sum_fin (g : ℕ → EReal) : ∑ e : Fin 256, g e.val = ∑ e ∈ range 256, g e := (Finset.sum_range g).symm

/-- The tiles folded in before group `g`. -/
def doneTiles (q g : ℕ) : ℕ := if g = 0 then 0 else q % 4 + 1 + 4 * (g - 1)

theorem doneTiles_succ (q g : ℕ) : doneTiles q (g + 1) = doneTiles q g + live q g := by
  unfold doneTiles live
  split_ifs <;> first | omega | contradiction

theorem doneTiles_last (q : ℕ) : doneTiles q (q / 4 + 1) = q + 1 := by
  unfold doneTiles; rw [if_neg (by omega)]; omega

theorem tile_val (q : Fin 33) (g : ℕ) (k : Fin 4) : (tile q g k).val = q.val - (doneTiles q.val g + k.val) := by
  show newest q.val g - k.val = _
  unfold newest doneTiles
  split_ifs <;> omega

section
variable (X : Blocks Ideal) (q : Fin 33) (hh : Fin 2) (i : Fin 256) (d : Fin 64) (s v : ℕ → EReal)

/-- What is asked of the blocks, for one query of one head. -/
structure ReadsBlocks : Prop where
  z : ∀ (t : Fin 33) (j : Fin 256), score (kBlk X t hh) (qBlk X hh) (ix3 0 j i) = lg * s (256 * t.val + j.val)
  u : ∀ j e : Fin 256, X.u (ix2 j e) = if j ≤ e then (1 : EReal) else 0
  v : ∀ (t : Fin 33) (e : Fin 256), X.v (ix5 0 0 t ⟨64 * hh.val + d.val, by omega⟩ e) = v (256 * t.val + e.val)

variable {X q hh i d s v}
variable (h : ReadsBlocks X hh i d s v)
include h

theorem zF_apply (g : ℕ) (k : Fin 4) (j : Fin 256) :
    zF X q g hh k (ix3 0 j i) = lg * s (256 * (q.val - (doneTiles q.val g + k.val)) + j.val) := by
  unfold zF
  rw [h.z, tile_val]

theorem cOf_apply (g : ℕ) (k : Fin 4) (j : Fin 256) (hn : doneTiles q.val g + k.val ≠ 0) :
    cOf X.u (zF X q g hh k) (ix2 j i) = colS q.val i.val s (doneTiles q.val g + k.val) j.val := by
  unfold cOf colS
  rw [cum_apply, ← sum_fin]
  apply sum_congr rfl
  intro e _
  rw [soft_apply, sq_apply, zF_apply h, h.u, if_neg (show ¬ (doneTiles q.val g + k.val = 0 ∧ ¬ e.val < i.val) from fun hc => hn hc.1)]
  rfl

theorem cDiag_apply (g : ℕ) (k : Fin 4) (j : Fin 256) (hn : doneTiles q.val g + k.val = 0) :
    cDiag X.u (zF X q g hh k) (ix2 j i) = colS q.val i.val s (doneTiles q.val g + k.val) j.val := by
  unfold cDiag colS
  rw [cum_apply, ← sum_fin]
  apply sum_congr rfl
  intro e _
  have e1 : select before (soft (sq (zF X q g hh k))) zeroSq (ix2 e i) = if e < i then sp2 (lg * s (256 * (q.val - (doneTiles q.val g + k.val)) + e.val)) else 0 := by
    show Scalar.select (before (ix2 e i)) (soft (sq (zF X q g hh k)) (ix2 e i)) (zeroSq (F := Ideal) (ix2 e i)) = _
    rw [before_apply, soft_apply, sq_apply, zF_apply h, zeroSq_apply]
    by_cases hl : e < i
    · rw [if_pos hl, if_pos hl]; rfl
    · rw [if_neg hl, if_neg hl]; rfl
  rw [e1, h.u]
  congr 1
  by_cases hl : e < i
  · rw [if_pos hl, if_neg (fun hc => hc.2 hl)]
  · rw [if_neg hl, if_pos ⟨hn, hl⟩]

theorem pvOf_apply (g : ℕ) (k : Fin 4) (hn : doneTiles q.val g + k.val ≠ 0) :
    pv (vBlk X (tile q g k) hh) (pOf X.u (zF X q g hh k)) (ix2 d i)
      = ∑ e ∈ range 256, v (256 * (q.val - (doneTiles q.val g + k.val)) + e) * wtS q.val i.val s (doneTiles q.val g + k.val) e := by
  unfold pOf
  rw [pv_apply, ← sum_fin]
  apply sum_congr rfl
  intro e _
  rw [vBlk_apply, h.v, tile_val, wt_apply, sq_apply, zF_apply h, cOf_apply h g k e hn]
  unfold wtS
  rw [if_neg (fun hc => hn hc.1)]

theorem pvDiag_apply (g : ℕ) (k : Fin 4) (hn : doneTiles q.val g + k.val = 0) :
    pv (vBlk X (tile q g k) hh) (pDiag X.u (zF X q g hh k)) (ix2 d i)
      = ∑ e ∈ range 256, v (256 * (q.val - (doneTiles q.val g + k.val)) + e) * wtS q.val i.val s (doneTiles q.val g + k.val) e := by
  unfold pDiag
  rw [pv_apply, ← sum_fin]
  apply sum_congr rfl
  intro e _
  rw [vBlk_apply, h.v, tile_val]
  congr 1
  show Scalar.select (before (ix2 e i)) (wt (sq (zF X q g hh k)) (cDiag X.u (zF X q g hh k)) (ix2 e i)) (zeroSq (F := Ideal) (ix2 e i)) = _
  rw [before_apply, wt_apply, sq_apply, zF_apply h, cDiag_apply h g k e hn, zeroSq_apply]
  unfold wtS
  by_cases hl : e < i
  · rw [if_pos hl, if_neg (fun hc => hc.2 hl)]; rfl
  · rw [if_neg hl, if_pos ⟨hn, hl⟩]; rfl

theorem pF_apply (g : ℕ) (k : Fin 4) (hk : k.val < live q.val g) :
    pv (vBlk X (tile q g k) hh) (pF X q g hh k) (ix2 d i)
      = ∑ e ∈ range 256, v (256 * (q.val - (doneTiles q.val g + k.val)) + e) * wtS q.val i.val s (doneTiles q.val g + k.val) e := by
  unfold pF
  by_cases hg : g = 0
  · subst hg
    rw [if_pos rfl]
    by_cases h0 : k.val = 0
    · rw [if_pos h0]; exact pvDiag_apply h 0 k (by rw [h0]; rfl)
    · rw [if_neg h0, if_pos hk]; exact pvOf_apply h 0 k (by omega)
  · rw [if_neg hg]; exact pvOf_apply h g k (by unfold doneTiles; rw [if_neg hg]; omega)

theorem csF_apply (g : ℕ) (k : Fin 4) (hk : k.val < live q.val g) :
    csF X q g hh k (ix2 0 i) = colS q.val i.val s (doneTiles q.val g + k.val) 0 := by
  unfold csF
  by_cases hg : g = 0
  · subst hg
    rw [if_pos rfl]
    by_cases h0 : k.val = 0
    · rw [if_pos h0, row0_apply]; exact cDiag_apply h 0 k 0 (by rw [h0]; rfl)
    · rw [if_neg h0, if_pos hk, row0_apply]; exact cOf_apply h 0 k 0 (by omega)
  · rw [if_neg hg, row0_apply]; exact cOf_apply h g k 0 (by unfold doneTiles; rw [if_neg hg]; omega)

end

/-- One group folded in, at one lane and one query. -/
theorem fold_step (q i : ℕ) (s v : ℕ → EReal) (N n : ℕ) (hn1 : 1 ≤ n) (hn4 : n ≤ 4) (cs : Fin 4 → Row Ideal) (vb : Fin 4 → VB Ideal) (pb : Fin 4 → PB Ideal)
    (a : Acc Ideal) (r : Row Ideal) (d : Fin 64) (i' : Fin 256)
    (hcs : ∀ k : Fin 4, k.val < n → cs k (ix2 0 i') = colS q i s (N + k.val) 0)
    (hpv : ∀ k : Fin 4, k.val < n → pv (vb k) (pb k) (ix2 d i') = ∑ e ∈ range 256, v (256 * (q - (N + k.val)) + e) * wtS q i s (N + k.val) e)
    (ha : a (ix2 d i') = accS q i s v N) (hr : r (ix2 0 i') = rowS q i s N) :
    foldAcc (BitVec.ofNat 32 n) vb pb cs a r (ix2 d i') = accS q i s v (N + n) ∧ foldRow (BitVec.ofNat 32 n) cs r (ix2 0 i') = rowS q i s (N + n) := by
  have l0 : liveF (F := Ideal) (BitVec.ofNat 32 n) 0#32 = if 0 < n then (1 : EReal) else 0 := liveF_eq n 0 hn4
  have l1 : liveF (F := Ideal) (BitVec.ofNat 32 n) 1#32 = if 1 < n then (1 : EReal) else 0 := liveF_eq n 1 hn4
  have l2 : liveF (F := Ideal) (BitVec.ofNat 32 n) 2#32 = if 2 < n then (1 : EReal) else 0 := liveF_eq n 2 hn4
  have l3 : liveF (F := Ideal) (BitVec.ofNat 32 n) 3#32 = if 3 < n then (1 : EReal) else 0 := liveF_eq n 3 hn4
  have accSucc : ∀ M, accS q i s v (M + 1) = accS q i s v M + Ideal.exp2 (0 - rowS q i s M) * ∑ e ∈ range 256, v (256 * (q - M) + e) * wtS q i s M e :=
    fun M => sum_range_succ _ _
  have rowSucc : ∀ M, rowS q i s (M + 1) = rowS q i s M + colS q i s M 0 := fun M => sum_range_succ _ _
  have c0 : 0 < n → cs 0 (ix2 0 i') = colS q i s N 0 := fun hk => hcs 0 hk
  have c1 : 1 < n → cs 1 (ix2 0 i') = colS q i s (N + 1) 0 := fun hk => hcs 1 hk
  have c2 : 2 < n → cs 2 (ix2 0 i') = colS q i s (N + 2) 0 := fun hk => hcs 2 hk
  have c3 : 3 < n → cs 3 (ix2 0 i') = colS q i s (N + 3) 0 := fun hk => hcs 3 hk
  have p0 : 0 < n → pv (vb 0) (pb 0) (ix2 d i') = ∑ e ∈ range 256, v (256 * (q - N) + e) * wtS q i s N e := fun hk => hpv 0 hk
  have p1 : 1 < n → pv (vb 1) (pb 1) (ix2 d i') = ∑ e ∈ range 256, v (256 * (q - (N + 1)) + e) * wtS q i s (N + 1) e := fun hk => hpv 1 hk
  have p2 : 2 < n → pv (vb 2) (pb 2) (ix2 d i') = ∑ e ∈ range 256, v (256 * (q - (N + 2)) + e) * wtS q i s (N + 2) e := fun hk => hpv 2 hk
  have p3 : 3 < n → pv (vb 3) (pb 3) (ix2 d i') = ∑ e ∈ range 256, v (256 * (q - (N + 3)) + e) * wtS q i s (N + 3) e := fun hk => hpv 3 hk
  unfold foldAcc foldRow
  simp only [accStep_apply, rowStep_apply, l0, l1, l2, l3, ha, hr]
  have h5 : n < 5 := by omega
  interval_cases n
  · simp only [c0 (by norm_num), p0 (by norm_num), show (0 : ℕ) < 1 from by norm_num, show ¬ (1 : ℕ) < 1 from by norm_num, show ¬ (2 : ℕ) < 1 from by norm_num,
      show ¬ (3 : ℕ) < 1 from by norm_num, if_true, if_false, one_mul, zero_mul, add_zero, accSucc, rowSucc, and_self]
  · simp only [c0 (by norm_num), p0 (by norm_num), c1 (by norm_num), p1 (by norm_num), show (0 : ℕ) < 2 from by norm_num, show (1 : ℕ) < 2 from by norm_num, show ¬ (2 : ℕ) < 2 from by norm_num,
      show ¬ (3 : ℕ) < 2 from by norm_num, if_true, if_false, one_mul, zero_mul, add_zero, show N + 2 = N + 1 + 1 from rfl, accSucc, rowSucc, and_self]
  · simp only [c0 (by norm_num), p0 (by norm_num), c1 (by norm_num), p1 (by norm_num), c2 (by norm_num), p2 (by norm_num), show (0 : ℕ) < 3 from by norm_num, show (1 : ℕ) < 3 from by norm_num,
      show (2 : ℕ) < 3 from by norm_num, show ¬ (3 : ℕ) < 3 from by norm_num, if_true, if_false, one_mul, zero_mul, add_zero, show N + 3 = N + 1 + 1 + 1 from rfl, show N + 2 = N + 1 + 1 from rfl,
      accSucc, rowSucc, and_self]
  · simp only [c0 (by norm_num), p0 (by norm_num), c1 (by norm_num), p1 (by norm_num), c2 (by norm_num), p2 (by norm_num), c3 (by norm_num), p3 (by norm_num), show (0 : ℕ) < 4 from by norm_num,
      show (1 : ℕ) < 4 from by norm_num, show (2 : ℕ) < 4 from by norm_num, show (3 : ℕ) < 4 from by norm_num, if_true, if_false, one_mul, zero_mul, add_zero,
      show N + 4 = N + 1 + 1 + 1 + 1 from rfl, show N + 3 = N + 1 + 1 + 1 from rfl, show N + 2 = N + 1 + 1 from rfl, accSucc, rowSucc, and_self]

/-- The accumulator and the carried row before each group. -/
theorem st_apply (X : Blocks Ideal) (q : Fin 33) (hh : Fin 2) (i : Fin 256) (d : Fin 64) (s v : ℕ → EReal) (h : ReadsBlocks X hh i d s v) (g : ℕ) :
    (st X q hh g).1 (ix2 d i) = accS q.val i.val s v (doneTiles q.val g) ∧ (st X q hh g).2 (ix2 0 i) = rowS q.val i.val s (doneTiles q.val g) := by
  induction g with
  | zero =>
    constructor
    · show (zeroAcc : Acc Ideal) (ix2 d i) = 0
      pointwise [zeroAcc]
    · show (zeroRow : Row Ideal) (ix2 0 i) = 0
      pointwise [zeroRow]
  | succ g ih =>
    rw [doneTiles_succ]
    have hl : 1 ≤ live q.val g ∧ live q.val g ≤ 4 := by unfold live; split_ifs <;> omega
    have e1 : (st X q hh (g + 1)).1 = foldAcc (BitVec.ofNat 32 (live q.val g)) (fun k => vBlk X (tile q g k) hh) (pF X q g hh) (csF X q g hh) (st X q hh g).1 (st X q hh g).2 := by
      rw [st]
    have e2 : (st X q hh (g + 1)).2 = foldRow (BitVec.ofNat 32 (live q.val g)) (csF X q g hh) (st X q hh g).2 := by
      rw [st]
    rw [e1, e2]
    exact fold_step q.val i.val s v (doneTiles q.val g) (live q.val g) hl.1 hl.2 _ _ _ _ _ d i (fun k hk => csF_apply h g k hk) (fun k hk => pF_apply h g k hk)
      ih.1 ih.2

/-- What the grid point writes, at one query and one lane. -/
theorem out_apply (X : Blocks Ideal) (q : Fin 33) (hh : Fin 2) (i : Fin 256) (d : Fin 64) (s v : ℕ → EReal) (h : ReadsBlocks X hh i d s v) :
    outBlk X q (ix3 0 i ⟨64 * hh.val + d.val, by omega⟩) = ∑ K ∈ range 8448, v K * refWt q.val i.val s K := by
  rw [outBlk_apply, (st_apply X q hh i d s v h _).1, doneTiles_last, accS_eq q.val i.val s v q.isLt i.isLt]

end Cert.Proof.Sb

end
-- ==== Proof.Score.lean ====
module

public import proofs.«01_k».proof.Proof.HostPack
public import proofs.«01_k».proof.Proof.Fold

/-! The packed queries' and keys' products: each is the reference's score of the pair, in units of the logarithm to base 2. -/

@[expose] public section

set_option maxRecDepth 16384

noncomputable section

namespace Cert.Proof.Sb

open Cert.KernelIdeal Cert.KernelIdeal.Gen
open Idealize.ShloMosaic
open Idealize.ShloMosaic.TcCoe
open Finset

/-- The 128 lanes of a head's block: 64 of data, and one that adds the bias. -/
theorem lanes (hh : Fin 2) (a b : Fin 128 → EReal) (r : ℝ) (kf qf : Fin 128 → EReal)
    (hk : ∀ e : Fin 128, kf e = if hh.val < 1 then (if e.val < 64 then a e else if 64 ≤ e.val ∧ e.val < 67 then (1 : EReal) else (0 : EReal))
      else (if 64 ≤ e.val then a e else if e.val < 3 then (1 : EReal) else (0 : EReal)))
    (hq : ∀ e : Fin 128, qf e = if (if hh.val < 1 then e.val < 64 else 64 ≤ e.val) then b e * (((1 / 8 : ℝ) : EReal) * lg)
      else if e.val = (if hh.val < 1 then 64 else 0) then (r : EReal) * lg else 0) :
    ∑ e : Fin 128, kf e * qf e
      = lg * ((∑ d : Fin 64, b ⟨64 * hh.val + d.val, by omega⟩ * a ⟨64 * hh.val + d.val, by omega⟩) * (((1 / 8 : ℝ) : EReal)) + (r : EReal)) := by
  have h8 : (0 : EReal) ≤ ((1 / 8 : ℝ) : EReal) := EReal.coe_nonneg.2 (by norm_num)
  have hd : lg * ((∑ d : Fin 64, b ⟨64 * hh.val + d.val, by omega⟩ * a ⟨64 * hh.val + d.val, by omega⟩) * (((1 / 8 : ℝ) : EReal)))
      = ∑ d : Fin 64, a ⟨64 * hh.val + d.val, by omega⟩ * (b ⟨64 * hh.val + d.val, by omega⟩ * (((1 / 8 : ℝ) : EReal) * lg)) := by
    rw [mul_comm (∑ d : Fin 64, _) _, factor_mul_sum _ h8 (EReal.coe_ne_top _), lg_mul_sum]
    refine sum_congr rfl fun d _ => ?_
    ac_rfl
  rw [lg_mul_add, hd, mul_comm lg (r : EReal)]
  rw [show ∑ e : Fin 128, kf e * qf e = ∑ e : Fin (64 + 64), kf e * qf e from rfl, Fin.sum_univ_add]
  fin_cases hh
  · refine congrArg₂ (· + ·) (sum_congr rfl fun d _ => ?_) ?_
    · rw [hk, hq]
      have hdl : d.val < 64 := d.isLt
      have e : (Fin.castAdd 64 d : Fin (64 + 64)) = (⟨64 * 0 + d.val, by omega⟩ : Fin 128) := Fin.ext (by simp)
      rw [e]
      simp [hdl]
    · rw [Finset.sum_eq_single (0 : Fin 64)]
      · rw [hk, hq]; simp
      · intro d _ hne
        rw [hq]
        have hd0 : d.val ≠ 0 := fun h => hne (Fin.ext h)
        simp [hd0]
      · intro h; exact absurd (mem_univ _) h
  · rw [add_comm]
    refine congrArg₂ (· + ·) (sum_congr rfl fun d _ => ?_) ?_
    · rw [hk, hq]
      have e : (Fin.natAdd 64 d : Fin (64 + 64)) = (⟨64 * 1 + d.val, by omega⟩ : Fin 128) := Fin.ext (by simp; omega)
      rw [e]
      simp
    · rw [Finset.sum_eq_single (0 : Fin 64)]
      · rw [hk, hq]; simp
      · intro d _ hne
        rw [hq]
        have hd0 : d.val ≠ 0 := fun h => hne (Fin.ext h)
        have hdl : ¬ 64 ≤ d.val := by omega
        simp [hd0, hdl]
      · intro h; exact absurd (mem_univ _) h

variable (m : (ℓ : Loc nD τ sig) → Buf (Elt Ideal) ℓ)

/-- The reference's scores of the kernel's arguments. -/
def scores (c : Dev nD) : Cert.Proof.Ref.Big Ideal :=
  Cert.Proof.Ref.score (m ((c : Thread nD τ).loc main_arg0) : FVec Ideal S2x8448x1024 .f32) (m ((c : Thread nD τ).loc main_arg1) : FVec Ideal S2x8448x1024 .f32)
    (m ((c : Thread nD τ).loc main_arg3) : FVec Ideal S16 .f32)

/-- The kernel's score of a query and a key is the reference's. -/
theorem packed_score (c : Dev nD) (n : Fin 2) (p : Fin 8) (t q : Fin 33) (hh : Fin 2) (j i : Fin 256) (r : ℝ)
    (hr : biasAt m c ⟨p.val * 2 + hh.val, by omega⟩ = (r : EReal)) :
    ∑ e : Fin 128, HMul.hMul (α := EReal) (β := EReal) (γ := EReal) ((V m c main_v74 : FVec Ideal S2x8x33x2x256x128 .bf16) (ix6 n p t hh j e))
        ((V m c main_v90 : FVec Ideal S2x8x33x2x128x256 .bf16) (ix6 n p q hh e i))
      = lg * scores m c (ix4 n ⟨p.val * 2 + hh.val, by omega⟩ ⟨256 * q.val + i.val, by omega⟩ ⟨256 * t.val + j.val, by omega⟩) := by
  have hb : (m ((c : Thread nD τ).loc main_arg3) : FVec Ideal S16 .f32) (ix1 ⟨p.val * 2 + hh.val, by omega⟩) = (r : EReal) := hr
  refine (lanes hh (fun e => (m ((c : Thread nD τ).loc main_arg1) : FVec Ideal S2x8448x1024 .f32) (ix3 n ⟨t.val * 256 + j.val, by omega⟩ ⟨p.val * 128 + e.val, by omega⟩))
    (fun e => (m ((c : Thread nD τ).loc main_arg0) : FVec Ideal S2x8448x1024 .f32) (ix3 n ⟨q.val * 256 + i.val, by omega⟩ ⟨p.val * 128 + e.val, by omega⟩)) r _ _
    (fun e => k_read m c n p t hh j e) (fun e => q_read m c n p q hh e i r hr)).trans ?_
  unfold scores
  rw [Cert.Proof.Ref.score_apply, hb]
  congr 3
  refine sum_congr rfl fun d _ => ?_
  congr 3
  all_goals first | (apply Fin.ext; show _ = _; dsimp only; omega) | skip

end Cert.Proof.Sb
-- ==== Proof.Blocks.lean ====
module

public import proofs.«01_k».proof.Proof.Score
public import proofs.«01_k».proof.Proof.Run
public import Idealize.ShloMosaic.Lib.Pipeline.ValueKit

/-! The operands' blocks at a grid point, read at an index of the packed arrays. -/

@[expose] public section

set_option maxRecDepth 16384

noncomputable section

namespace Cert.Proof.Sb

open Cert.KernelIdeal Cert.KernelIdeal.Gen
open Idealize.ShloMosaic
open Idealize.ShloMosaic.TcCoe

variable (m : (ℓ : Loc nD τ sig) → Buf (Elt Ideal) ℓ)

attribute [local irreducible] k0_part105 restOf cc0_sb_prompt

theorem index_0 : ∀ t : Fin cfg0.N, win0_0.index t = ![(grid0.coords t 0).val, (grid0.coords t 1).val, 0, 0, 0, 0] :=
  (by decide +kernel : ∀ t : Fin grid0.N, _)
theorem index_1 : ∀ t : Fin cfg0.N, win0_1.index t = ![(grid0.coords t 0).val, (grid0.coords t 1).val, (grid0.coords t 2).val, 0, 0, 0] :=
  (by decide +kernel : ∀ t : Fin grid0.N, _)
theorem index_2 : ∀ t : Fin cfg0.N, win0_2.index t = ![(grid0.coords t 0).val, (grid0.coords t 1).val, 0, 0, 0] :=
  (by decide +kernel : ∀ t : Fin grid0.N, _)
theorem index_3 : ∀ t : Fin cfg0.N, win0_3.index t = ![0, 0] :=
  (by decide +kernel : ∀ t : Fin grid0.N, _)
theorem index_4 : ∀ t : Fin cfg0.N, win0_4.index t = ![(grid0.coords t 0).val, (grid0.coords t 2).val, (grid0.coords t 1).val] :=
  (by decide +kernel : ∀ t : Fin grid0.N, _)

theorem k_block (c : Dev nD) (g : Fin cfg0.N) (t : Fin 33) (hh : Fin 2) (j : Fin 256) (e : Fin 128) :
    (blocksAt m c g).k (ix6 0 0 t hh j e)
      = (V m c main_v74 : FVec Ideal S2x8x33x2x256x128 .bf16) (ix6 (grid0.coords g 0) (grid0.coords g 1) t hh j e) := by
  show iblk m c 0 g (ix6 0 0 t hh j e) = _
  blk_ext [iblk, index_0 g]

theorem q_block (c : Dev nD) (g : Fin cfg0.N) (hh : Fin 2) (e : Fin 128) (i : Fin 256) :
    (blocksAt m c g).q (ix6 0 0 0 hh e i)
      = (V m c main_v90 : FVec Ideal S2x8x33x2x128x256 .bf16) (ix6 (grid0.coords g 0) (grid0.coords g 1) (grid0.coords g 2) hh e i) := by
  show iblk m c 1 g (ix6 0 0 0 hh e i) = _
  blk_ext [iblk, index_1 g]

theorem v_block (c : Dev nD) (g : Fin cfg0.N) (t : Fin 33) (d : Fin 128) (e : Fin 256) :
    (blocksAt m c g).v (ix5 0 0 t d e)
      = (V m c main_v91 : FVec Ideal S2x8x33x128x256 .bf16) (ix5 (grid0.coords g 0) (grid0.coords g 1) t d e) := by
  show iblk m c 2 g (ix5 0 0 t d e) = _
  blk_ext [iblk, index_2 g]

theorem u_block (c : Dev nD) (g : Fin cfg0.N) (j e : Fin 256) :
    (blocksAt m c g).u (ix2 j e) = (V m c main_v95 : FVec Ideal S256x256 .bf16) (ix2 j e) := by
  show iblk m c 3 g (ix2 j e) = _
  blk_ext [iblk, index_3 g]

end Cert.Proof.Sb
-- ==== Proof.Result.lean ====
module

public import proofs.«01_k».proof.Proof.Blocks

/-! The result array: the reference's attention of the kernel's arguments. -/

@[expose] public section

set_option maxRecDepth 16384

noncomputable section

namespace Cert.Proof.Sb

open Cert.KernelIdeal Cert.KernelIdeal.Gen
open Idealize.ShloMosaic
open Idealize.ShloMosaic.TcCoe
open Finset

variable (m : (ℓ : Loc nD τ sig) → Buf (Elt Ideal) ℓ)

attribute [local irreducible] k0_part105 restOf cc0_sb_prompt

/-- The values. -/
def vals (c : Dev nD) : FVec Ideal S2x8448x1024 .f32 := m ((c : Thread nD τ).loc main_arg2)

/-- The reference's result of the kernel's arguments. -/
def attention (c : Dev nD) : FVec Ideal S2x8448x1024 .f32 := Cert.Proof.Ref.out (Cert.Proof.Ref.weights (scores m c)) (vals m c)

/-- One query's scores of one head, over the keys. -/
def scoreRow (c : Dev nD) (n : Fin 2) (h : Fin 16) (Q : Fin 8448) (K : ℕ) : EReal :=
  if hK : K < 8448 then scores m c (ix4 n h Q ⟨K, hK⟩) else 0
/-- One lane of one head's values, over the keys. -/
def valRow (c : Dev nD) (n : Fin 2) (h : Fin 16) (d : Fin 64) (K : ℕ) : EReal :=
  if hK : K < 8448 then vals m c (ix3 n ⟨K, hK⟩ ⟨64 * h.val + d.val, by omega⟩) else 0

theorem scoreRow_of_lt (c : Dev nD) (n : Fin 2) (h : Fin 16) (Q : Fin 8448) (K : ℕ) (hK : K < 8448) :
    scoreRow m c n h Q K = scores m c (ix4 n h Q ⟨K, hK⟩) := by
  rw [scoreRow, dif_pos hK]
theorem valRow_of_lt (c : Dev nD) (n : Fin 2) (h : Fin 16) (d : Fin 64) (K : ℕ) (hK : K < 8448) :
    valRow m c n h d K = vals m c (ix3 n ⟨K, hK⟩ ⟨64 * h.val + d.val, by omega⟩) := by
  rw [valRow, dif_pos hK]

theorem scoreRow_val (c : Dev nD) (n : Fin 2) (h : Fin 16) (Q K : Fin 8448) : scoreRow m c n h Q K.val = scores m c (ix4 n h Q K) := by
  rw [scoreRow, dif_pos K.isLt]
theorem valRow_val (c : Dev nD) (n : Fin 2) (h : Fin 16) (d : Fin 64) (K : Fin 8448) :
    valRow m c n h d K.val = vals m c (ix3 n K ⟨64 * h.val + d.val, by omega⟩) := by
  rw [valRow, dif_pos K.isLt]

/-- The reference's logarithm of a key's remainder, as a row. -/
theorem logRest_row (c : Dev nD) (n : Fin 2) (h : Fin 16) (q : Fin 33) (i : Fin 256) (K : Fin 8448) :
    Cert.Proof.Ref.logRest (scores m c) (ix4 n h ⟨256 * q.val + i.val, by omega⟩ K)
      = logS q.val i.val (scoreRow m c n h ⟨256 * q.val + i.val, by omega⟩) K.val := by
  rw [Cert.Proof.Ref.logRest_apply, logS, scoreRow_val]
  rfl

theorem laterSum_row (c : Dev nD) (n : Fin 2) (h : Fin 16) (q : Fin 33) (i : Fin 256) (K : Fin 8448) :
    Cert.Proof.Ref.laterSum (Cert.Proof.Ref.logRest (scores m c)) (ix4 n h ⟨256 * q.val + i.val, by omega⟩ K)
      = laterS q.val i.val (scoreRow m c n h ⟨256 * q.val + i.val, by omega⟩) K.val := by
  rw [Cert.Proof.Ref.laterSum_apply, laterS, Finset.sum_range]
  refine sum_congr rfl fun w _ => ?_
  by_cases hw : K.val + w.val < 8448
  · rw [dif_pos hw, if_pos hw, logRest_row]
  · rw [dif_neg hw, if_neg hw]

theorem weights_row (c : Dev nD) (n : Fin 2) (h : Fin 16) (q : Fin 33) (i : Fin 256) (K : Fin 8448) :
    Cert.Proof.Ref.weights (scores m c) (ix4 n h ⟨256 * q.val + i.val, by omega⟩ K)
      = refWt q.val i.val (scoreRow m c n h ⟨256 * q.val + i.val, by omega⟩) K.val := by
  rw [Cert.Proof.Ref.weights_apply, logRest_row, laterSum_row, refWt, scoreRow_val]
  rfl

/-- The reference's attention at one query and one lane of a head. -/
theorem attention_row (c : Dev nD) (n : Fin 2) (h : Fin 16) (q : Fin 33) (i : Fin 256) (d : Fin 64) :
    attention m c (ix3 n ⟨256 * q.val + i.val, by omega⟩ ⟨64 * h.val + d.val, by omega⟩)
      = ∑ K ∈ range 8448, valRow m c n h d K * refWt q.val i.val (scoreRow m c n h ⟨256 * q.val + i.val, by omega⟩) K := by
  unfold attention
  rw [Cert.Proof.Ref.out_apply, Finset.sum_range]
  refine sum_congr rfl fun K _ => ?_
  rw [weights_row, valRow_val]

/-- A grid point's blocks hold the reference's scores and values. -/
theorem reads (c : Dev nD) (g : Fin cfg0.N) (hh : Fin 2) (i : Fin 256) (d : Fin 64) (hb : ∀ h : Fin 16, ∃ r : ℝ, biasAt m c h = (r : EReal)) :
    ReadsBlocks (blocksAt m c g) hh i d
      (scoreRow m c (grid0.coords g 0) ⟨(grid0.coords g 1).val * 2 + hh.val, by have : (grid0.coords g 1).val < 8 := (grid0.coords g 1).isLt; omega⟩
        ⟨256 * (grid0.coords g 2).val + i.val, by have : (grid0.coords g 2).val < 33 := (grid0.coords g 2).isLt; omega⟩)
      (valRow m c (grid0.coords g 0) ⟨(grid0.coords g 1).val * 2 + hh.val, by have : (grid0.coords g 1).val < 8 := (grid0.coords g 1).isLt; omega⟩ d) where
  z t j := by
    have h1 : (grid0.coords g 1).val < 8 := (grid0.coords g 1).isLt
    obtain ⟨r, hr⟩ := hb ⟨(grid0.coords g 1).val * 2 + hh.val, by omega⟩
    rw [score_apply]
    simp only [kBlk_apply, qBlk_apply, k_block, q_block]
    exact (packed_score m c (grid0.coords g 0) (grid0.coords g 1) t (grid0.coords g 2) hh j i r hr).trans
      (congrArg (fun x : EReal => lg * x) (scoreRow_of_lt m c (grid0.coords g 0) _ _ (256 * t.val + j.val) (by omega)).symm)
  u j e := by rw [u_block]; exact u_read m c j e
  v t e := by
    have h1 : (grid0.coords g 1).val < 8 := (grid0.coords g 1).isLt
    rw [v_block]
    refine (v_read m c _ _ t _ e).trans ?_
    refine Eq.trans ?_ (valRow_of_lt m c (grid0.coords g 0) _ d (256 * t.val + e.val) (by omega)).symm
    unfold vals
    congr 2 <;> (apply Fin.ext; dsimp only; omega)

/-- What a grid point leaves: its block of the reference's attention. -/
theorem out_block (c : Dev nD) (g : Fin cfg0.N) (hb : ∀ h : Fin 16, ∃ r : ℝ, biasAt m c h = (r : EReal)) (hh : Fin 2) (i : Fin 256) (d : Fin 64) :
    outAt m c g (ix3 0 i ⟨64 * hh.val + d.val, by omega⟩)
      = attention m c (ix3 (grid0.coords g 0) ⟨256 * (grid0.coords g 2).val + i.val, by have : (grid0.coords g 2).val < 33 := (grid0.coords g 2).isLt; omega⟩
          ⟨64 * ((grid0.coords g 1).val * 2 + hh.val) + d.val, by have : (grid0.coords g 1).val < 8 := (grid0.coords g 1).isLt; omega⟩) := by
  have h1 : (grid0.coords g 1).val < 8 := (grid0.coords g 1).isLt
  refine (out_apply (blocksAt m c g) (grid0.coords g 2) hh i d _ _ (reads m c g hh i d hb)).trans ?_
  exact (attention_row m c (grid0.coords g 0) ⟨(grid0.coords g 1).val * 2 + hh.val, by omega⟩ (grid0.coords g 2) i d).symm

/-- An index of a result's block: a query, a head of the pair and a lane. -/
theorem split_index (y : S1x256x128.Idx) : ∃ (i : Fin 256) (hh : Fin 2) (d : Fin 64), y = ix3 (0 : Fin 1) i (⟨64 * hh.val + d.val, by omega⟩ : Fin 128) := by
  have y0 : (y 0).val < 1 := (y 0).isLt
  have y1 : (y 1).val < 256 := (y 1).isLt
  have y2 : (y 2).val < 128 := (y 2).isLt
  refine ⟨⟨(y 1).val, y1⟩, ⟨(y 2).val / 64, by omega⟩, ⟨(y 2).val % 64, by omega⟩, ?_⟩
  funext a
  apply Fin.ext
  match a with
  | ⟨0, _⟩ => show (y 0).val = 0; omega
  | ⟨1, _⟩ => rfl
  | ⟨2, _⟩ => show (y 2).val = 64 * ((y 2).val / 64) + (y 2).val % 64; omega

/-- The result array after the run. -/
theorem final (c : Dev nD) (hb : ∀ h : Fin 16, ∃ r : ℝ, biasAt m c h = (r : EReal)) :
    (dats m 0 c).arrAt 4 cfg0.N = attention m c := by
  refine (dats m 0 c).arrAt_eq_of_covers 4 _ (by decide +kernel) fun g hf y => ?_
  blk_simp
  rw [after0_4]
  obtain ⟨i, hh, d, rfl⟩ := split_index y
  refine (out_block m c g hb hh i d).trans ?_
  have h0 : (grid0.coords g 0).val < 2 := (grid0.coords g 0).isLt
  have h1 : (grid0.coords g 1).val < 8 := (grid0.coords g 1).isLt
  have h2 : (grid0.coords g 2).val < 33 := (grid0.coords g 2).isLt
  blk_ext [index_4 g]

end Cert.Proof.Sb
-- ==== Proof.Pre.lean ====
module

public import proofs.«01_k».proof.Defs
public import proofs.«01_k».proof.Proof.Result
public import Idealize.ShloMosaic.Lib.ReduceAll

/-! The precondition: every head's bias is a real number. -/

@[expose] public section

set_option maxRecDepth 16384

noncomputable section

namespace Cert.Proof.Sb

open Cert.KernelIdeal Cert.KernelIdeal.Gen
open Idealize.ShloMosaic
open Idealize.ShloMosaic.TcCoe

/-- The shape facts the precondition states. -/
theorem preFacts : Cert.Pre_bias_finite.Facts where
  bcast_S_S16 := by decide
  reducesTo_S16_S_d0 := by decide
  h_S_ := by decide

/-- A number whose magnitude is below infinity is real. -/
theorem real_of_abs_lt (x : EReal) (h : max x (-x) < ⊤) : ∃ r : ℝ, x = (r : EReal) := by
  induction x using EReal.rec with
  | bot => simp at h
  | coe r => exact ⟨r, rfl⟩
  | top => simp at h

theorem bias_real (m : (ℓ : Loc nD τ sig) → Buf (Elt Ideal) ℓ) (h : Cert.Pre_KernelIdeal_bias_finite (hPre_bias_finite := preFacts) m) (c : Dev nD) (j : Fin 16) :
    ∃ r : ℝ, biasAt m c j = (r : EReal) := by
  have e := congrFun (h c) (fun a => a.elim0)
  have e2 := Host.reduce_andi_all (t := Cert.Pre_bias_finite.S_) _ _ _ _ _ e (ix1 j)
  refine real_of_abs_lt _ ?_
  have ht : Ideal.ofBits .f32 0x7F800000#32 = (⊤ : EReal) := by simp [Ideal.ofBits, Ideal.ieee]
  revert e2
  pointwise []
  rw [ht]
  intro hx
  have hd : BitVec.ofBool (decide (max (biasAt m c j) (-biasAt m c j) < ⊤)) = 1#1 := hx
  by_contra hn
  rw [decide_eq_false hn] at hd
  simp at hd

end Cert.Proof.Sb
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Machine.Run
public import proofs.«01_k».proof.Proof.Run
public import proofs.«01_k».proof.Proof.Pre
public import Idealize.ShloMosaic.Adequacy
public import Idealize.ShloMosaic.Init

/-! The claims: the frames of the kernel, of its ideal form and of the reference, the renamed constant, and the equality of the two results. -/

@[expose] public section

noncomputable section

namespace Cert.Proof

open Idealize.ShloMosaic Idealize.SL.Sem

/-- The reference runs to its end, leaving its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel at the machine's floats runs to its end, leaving its arguments. -/
theorem frame_kernel : Cert.quiescent_Kernel := fun m ρ _ => Machine.frame_any (F := Bits) m ρ

/-- The ideal form of the kernel runs to its end, leaving its arguments. -/
theorem frame_ideal : Cert.quiescent_KernelIdeal := fun m ρ _ => Sb.frame_any (F := Ideal) m ρ

/-- The ideal form ends with the reference's attention of its arguments. -/
theorem value_ideal (m : (ℓ : Loc Cert.KernelIdeal.nD Cert.KernelIdeal.τ Cert.KernelIdeal.sig) → Buf (Elt Ideal) ℓ)
    (ρ : Dev Cert.KernelIdeal.nD → PrngReg) (hb : ∀ c, ∀ h : Fin 16, ∃ r : ℝ, Sb.biasAt m c h = (r : EReal)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v96) = Sb.attention m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun r h c => ⟨(h.1.out_eq c 4).trans (Sb.final m c (hb c)),
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩)
    (Sb.run_main m ρ)

/-- From equal arguments, the kernel's result and the reference's are equal. -/
theorem equal_results : Cert.algebraic_KernelIdeal_ReferenceIdeal_pre_bias_finite (hPre_bias_finite := Sb.preFacts) := by
  intro m ρ m' ρ' hpre hargs
  refine ⟨fun c => Sb.attention m c, value_ideal m ρ fun c h => Sb.bias_real m hpre c h, ?_⟩
  refine (θ_run Cert.ReferenceIdeal.defs _ _).mono (fun r h c => ⟨(h c).1.trans ?_, (h c).2⟩) (Cert.ReferenceIdeal.Value.run (F := Ideal) m' ρ')
  obtain ⟨e0, e1, e2, e3⟩ := hargs c
  rw [Ref.result_eq, e0, e1, e2, e3]
  rfl

theorem claim : Cert.Claim := ⟨Cert.Kernel.Gen.facts, Cert.KernelIdeal.Gen.facts, Cert.ReferenceIdeal.Gen.facts, Sb.preFacts,
  frame_kernel, frame_ideal, fun m ρ _ => Sb.frame_any (F := Ideal) m ρ, frame_reference, fun m ρ _ => frame_reference m ρ trivial,
  IdealRules.named_const.statement Cert.KernelIdeal.κ "log2e" .f32 0x3FB8AA3B#32 _ rfl, equal_results⟩

end Cert.Proof

end
